-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rstd_in_range [hPre_rstd_in_range : Cert.Pre_rstd_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rstd_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rstd_in_range [hPre_rstd_in_range : Cert.Pre_rstd_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rstd_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rstd_in_range [hKernelIdeal : Cert.KernelIdeal.Facts] [hPre_rstd_in_range : Cert.Pre_rstd_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rstd_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rstd_in_range [hReferenceIdeal : Cert.ReferenceIdeal.Facts] [hPre_rstd_in_range : Cert.Pre_rstd_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rstd_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_d" .f32 0x39124925#32 ((1 / 7168 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_rstd_in_range [hKernelIdeal : Cert.KernelIdeal.Facts] [hReferenceIdeal : Cert.ReferenceIdeal.Facts] [hPre_rstd_in_range : Cert.Pre_rstd_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rstd_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_rstd_in_range : Cert.Pre_rstd_in_range.Facts),
    quiescent_Kernel (hKernel := hKernel)
    ∧ quiescent_KernelIdeal (hKernelIdeal := hKernelIdeal)
    ∧ quiescent_KernelIdeal_pre_rstd_in_range (hKernelIdeal := hKernelIdeal) (hPre_rstd_in_range := hPre_rstd_in_range)
    ∧ quiescent_ReferenceIdeal (hReferenceIdeal := hReferenceIdeal)
    ∧ quiescent_ReferenceIdeal_pre_rstd_in_range (hReferenceIdeal := hReferenceIdeal) (hPre_rstd_in_range := hPre_rstd_in_range)
    ∧ quiescent_Reference (hReference := hReference)
    ∧ preserves_Kernel_KernelIdeal
    ∧ preserves_Reference_ReferenceIdeal
    ∧ algebraic_KernelIdeal_ReferenceIdeal_pre_rstd_in_range (hKernelIdeal := hKernelIdeal) (hReferenceIdeal := hReferenceIdeal) (hPre_rstd_in_range := hPre_rstd_in_range)
-- ==== Pre_rstd_in_range.lean ====
abbrev S4x384x7168 : Shape := ⟨3, ![4, 384, 7168]⟩
abbrev S4x384x56 : Shape := ⟨3, ![4, 384, 56]⟩
abbrev S7168 : Shape := ⟨1, ![7168]⟩
abbrev S4x384 : Shape := ⟨2, ![4, 384]⟩
abbrev S_ : Shape := ⟨0, ![]⟩

class Facts : Prop where
  bcast_S_S4x384 : S_.BroadcastsInDim S4x384 (![] : Fin 0 → Fin S4x384.rank)

variable [Facts]

def fn {F : FTy → Type} [FloatOps F] (main_arg0 : FVec F S4x384x7168 .fp8e4m3) (main_arg1 : FVec F S4x384x56 .f32) (main_arg2 : FVec F S4x384x7168 .fp8e5m2) (main_arg3 : FVec F S4x384x56 .f32) (main_arg4 : FVec F S7168 .f32) (main_arg5 : FVec F S4x384 .f32) : IVec S4x384 1 :=
  let main_cst : FVec F S_ .f32 := constant S_ .f32 0x00000000#32
  let main_v0 : FVec F S4x384 .f32 := broadcastInDim S4x384 ![] bcast_S_S4x384 main_cst
  let main_v1 : IVec S4x384 1 := cmpf .oge main_arg5 main_v0
  let main_cst_0 : FVec F S_ .f32 := constant S_ .f32 0x7F800000#32
  let main_v2 : FVec F S4x384 .f32 := broadcastInDim S4x384 ![] bcast_S_S4x384 main_cst_0
  let main_v3 : IVec S4x384 1 := cmpf .olt main_arg5 main_v2
  let main_v4 : IVec S4x384 1 := andi main_v1 main_v3
  main_v4
-- ==== Kernel.lean ====
abbrev S4x384x7168 : Shape := ⟨3, ![4, 384, 7168]⟩
abbrev S4x384x56 : Shape := ⟨3, ![4, 384, 56]⟩
abbrev S7168 : Shape := ⟨1, ![7168]⟩
abbrev S4x384 : Shape := ⟨2, ![4, 384]⟩
abbrev S1x7168 : Shape := ⟨2, ![1, 7168]⟩
abbrev S1x128x7168 : Shape := ⟨3, ![1, 128, 7168]⟩
abbrev S1x128x56 : Shape := ⟨3, ![1, 128, 56]⟩
abbrev S8x7168 : Shape := ⟨2, ![8, 7168]⟩
abbrev S128x128 : Shape := ⟨2, ![128, 128]⟩
abbrev S4x128 : Shape := ⟨2, ![4, 128]⟩
abbrev S128 : Shape := ⟨1, ![128]⟩
abbrev S1x128 : Shape := ⟨2, ![1, 128]⟩
abbrev S32x1 : Shape := ⟨2, ![32, 1]⟩
abbrev S1x32x56 : Shape := ⟨3, ![1, 32, 56]⟩
abbrev S32x56 : Shape := ⟨2, ![32, 56]⟩
abbrev S32x128 : Shape := ⟨2, ![32, 128]⟩
abbrev S1x32x128 : Shape := ⟨3, ![1, 32, 128]⟩
abbrev S8x128 : Shape := ⟨2, ![8, 128]⟩
abbrev S4x8x128 : Shape := ⟨3, ![4, 8, 128]⟩
abbrev S32 : Shape := ⟨1, ![32]⟩
abbrev S32x247 : Shape := ⟨2, ![32, 247]⟩
abbrev S1x32x1 : Shape := ⟨3, ![1, 32, 1]⟩

abbrev nBuf : Space → Nat
  | .hbm => 10
  | .vmem => 17
  | .smem => 0
  | _ => 0

abbrev bufTy : (tb : Table) → Fin (tcTables nBuf tb) → BufTy
  | .hbm, ⟨0, _⟩ => ⟨S4x384x7168, .fp8e4m3⟩
  | .hbm, ⟨1, _⟩ => ⟨S4x384x56, .f32⟩
  | .hbm, ⟨2, _⟩ => ⟨S4x384x7168, .fp8e5m2⟩
  | .hbm, ⟨3, _⟩ => ⟨S4x384x56, .f32⟩
  | .hbm, ⟨4, _⟩ => ⟨S7168, .f32⟩
  | .hbm, ⟨5, _⟩ => ⟨S4x384, .f32⟩
  | .hbm, ⟨6, _⟩ => ⟨S1x7168, .f32⟩
  | .hbm, ⟨7, _⟩ => ⟨S1x7168, .f32⟩
  | .hbm, ⟨8, _⟩ => ⟨S4x384x7168, .fp8e4m3⟩
  | .hbm, ⟨9, _⟩ => ⟨S4x384x56, .f32⟩
  | .local _ .vmem, ⟨0, _⟩ => ⟨S1x128x7168, .fp8e4m3⟩
  | .local _ .vmem, ⟨1, _⟩ => ⟨S1x128x7168, .fp8e4m3⟩
  | .local _ .vmem, ⟨2, _⟩ => ⟨S1x128x56, .f32⟩
  | .local _ .vmem, ⟨3, _⟩ => ⟨S1x128x56, .f32⟩
  | .local _ .vmem, ⟨4, _⟩ => ⟨S1x128x7168, .fp8e5m2⟩
  | .local _ .vmem, ⟨5, _⟩ => ⟨S1x128x7168, .fp8e5m2⟩
  | .local _ .vmem, ⟨6, _⟩ => ⟨S1x128x56, .f32⟩
  | .local _ .vmem, ⟨7, _⟩ => ⟨S1x128x56, .f32⟩
  | .local _ .vmem, ⟨8, _⟩ => ⟨S1x7168, .f32⟩
  | .local _ .vmem, ⟨9, _⟩ => ⟨S4x384, .f32⟩
  | .local _ .vmem, ⟨10, _⟩ => ⟨S1x7168, .f32⟩
  | .local _ .vmem, ⟨11, _⟩ => ⟨S1x128x7168, .fp8e4m3⟩
  | .local _ .vmem, ⟨12, _⟩ => ⟨S1x128x7168, .fp8e4m3⟩
  | .local _ .vmem, ⟨13, _⟩ => ⟨S1x128x56, .f32⟩
  | .local _ .vmem, ⟨14, _⟩ => ⟨S1x128x56, .f32⟩
  | .local _ .vmem, ⟨15, _⟩ => ⟨S8x7168, .f32⟩
  | .local _ .vmem, ⟨16, _⟩ => ⟨S128x128, .f32⟩
  | _, _ => ⟨S4x384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 3], ![false, false]⟩

def k0_mult1 (i : grid0.Coords) : BitVec 32 :=
  let arg1 : BitVec 32 := BitVec.ofNat 32 (i 1).val
  let c128_i32 : BitVec 32 := 128#32
  let v5 : BitVec 32 := Scalar.muli arg1 c128_i32
  v5
def k0_off1 (i : grid0.Coords) : Fin 2 → Nat :=
  let c0 : Index := 0#32
  let arg1 : BitVec 32 := BitVec.ofNat 32 (i 1).val
  let c128_i32 : BitVec 32 := 128#32
  let v5 : BitVec 32 := Scalar.muli arg1 c128_i32
  let v6 : BitVec 32 := v5
  let v7 : Index := Scalar.indexCast v6
  ![0, v7.toNat]
@[reducible] def k0_t1_loop : Scf.Loop 32 :=
  let c0_i32_5 : BitVec 32 := 0#32
  let c4_i32 : BitVec 32 := 4#32
  let v22 : BitVec 32 := Scalar.addi c0_i32_5 c4_i32
  let c1_i32 : BitVec 32 := 1#32
  ⟨c0_i32_5, v22, c1_i32⟩
def k0_mult2 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  v28
def k0_off2 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v30 : Index := Scalar.indexCast v29
  let c0_8 : Index := 0#32
  ![v30.toNat, 0]
def k0_off3 (k0_t1 : Fin k0_t1_loop.trips) : Fin 3 → Nat :=
  let c0_9 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v32 : Index := Scalar.indexCast v29
  let c0_10 : Index := 0#32
  ![0, v32.toNat, 0]
def k0_off4 (k0_t1 : Fin k0_t1_loop.trips) : Fin 3 → Nat :=
  let c0_14 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v42 : Index := Scalar.indexCast v29
  let c0_15 : Index := 0#32
  ![0, v42.toNat, 0]
def k0_off5 (k0_t1 : Fin k0_t1_loop.trips) : Fin 3 → Nat :=
  let c0_25 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v66 : Index := Scalar.indexCast v29
  let c128 : Index := 128#32
  ![0, v66.toNat, 128]
def k0_off6 (k0_t1 : Fin k0_t1_loop.trips) : Fin 3 → Nat :=
  let c0_35 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v90 : Index := Scalar.indexCast v29
  let c256 : Index := 256#32
  ![0, v90.toNat, 256]
def k0_off7 (k0_t1 : Fin k0_t1_loop.trips) : Fin 3 → Nat :=
  let c0_45 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v114 : Index := Scalar.indexCast v29
  let c384 : Index := 384#32
  ![0, v114.toNat, 384]
def k0_off8 (k0_t1 : Fin k0_t1_loop.trips) : Fin 3 → Nat :=
  let c0_55 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v138 : Index := Scalar.indexCast v29
  let c512 : Index := 512#32
  ![0, v138.toNat, 512]
def k0_off9 (k0_t1 : Fin k0_t1_loop.trips) : Fin 3 → Nat :=
  let c0_65 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v162 : Index := Scalar.indexCast v29
  let c640 : Index := 640#32
  ![0, v162.toNat, 640]
def k0_off10 (k0_t1 : Fin k0_t1_loop.trips) : Fin 3 → Nat :=
  let c0_75 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v186 : Index := Scalar.indexCast v29
  let c768 : Index := 768#32
  ![0, v186.toNat, 768]
def k0_off11 (k0_t1 : Fin k0_t1_loop.trips) : Fin 3 → Nat :=
  let c0_85 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v210 : Index := Scalar.indexCast v29
  let c896 : Index := 896#32
  ![0, v210.toNat, 896]
def k0_off12 (k0_t1 : Fin k0_t1_loop.trips) : Fin 3 → Nat :=
  let c0_95 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v234 : Index := Scalar.indexCast v29
  let c1024 : Index := 1024#32
  ![0, v234.toNat, 1024]
def k0_off13 (k0_t1 : Fin k0_t1_loop.trips) : Fin 3 → Nat :=
  let c0_105 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v258 : Index := Scalar.indexCast v29
  let c1152 : Index := 1152#32
  ![0, v258.toNat, 1152]
def k0_off14 (k0_t1 : Fin k0_t1_loop.trips) : Fin 3 → Nat :=
  let c0_115 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v282 : Index := Scalar.indexCast v29
  let c1280 : Index := 1280#32
  ![0, v282.toNat, 1280]
def k0_off15 (k0_t1 : Fin k0_t1_loop.trips) : Fin 3 → Nat :=
  let c0_125 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v306 : Index := Scalar.indexCast v29
  let c1408 : Index := 1408#32
  ![0, v306.toNat, 1408]
def k0_off16 (k0_t1 : Fin k0_t1_loop.trips) : Fin 3 → Nat :=
  let c0_135 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v330 : Index := Scalar.indexCast v29
  let c1536 : Index := 1536#32
  ![0, v330.toNat, 1536]
def k0_off17 (k0_t1 : Fin k0_t1_loop.trips) : Fin 3 → Nat :=
  let c0_145 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v354 : Index := Scalar.indexCast v29
  let c1664 : Index := 1664#32
  ![0, v354.toNat, 1664]
def k0_off18 (k0_t1 : Fin k0_t1_loop.trips) : Fin 3 → Nat :=
  let c0_155 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v378 : Index := Scalar.indexCast v29
  let c1792 : Index := 1792#32
  ![0, v378.toNat, 1792]
def k0_off19 (k0_t1 : Fin k0_t1_loop.trips) : Fin 3 → Nat :=
  let c0_165 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v402 : Index := Scalar.indexCast v29
  let c1920 : Index := 1920#32
  ![0, v402.toNat, 1920]
def k0_off20 (k0_t1 : Fin k0_t1_loop.trips) : Fin 3 → Nat :=
  let c0_175 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v426 : Index := Scalar.indexCast v29
  let c2048 : Index := 2048#32
  ![0, v426.toNat, 2048]
def k0_off21 (k0_t1 : Fin k0_t1_loop.trips) : Fin 3 → Nat :=
  let c0_185 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v450 : Index := Scalar.indexCast v29
  let c2176 : Index := 2176#32
  ![0, v450.toNat, 2176]
def k0_off22 (k0_t1 : Fin k0_t1_loop.trips) : Fin 3 → Nat :=
  let c0_195 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v474 : Index := Scalar.indexCast v29
  let c2304 : Index := 2304#32
  ![0, v474.toNat, 2304]
def k0_off23 (k0_t1 : Fin k0_t1_loop.trips) : Fin 3 → Nat :=
  let c0_205 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v498 : Index := Scalar.indexCast v29
  let c2432 : Index := 2432#32
  ![0, v498.toNat, 2432]
def k0_off24 (k0_t1 : Fin k0_t1_loop.trips) : Fin 3 → Nat :=
  let c0_215 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v522 : Index := Scalar.indexCast v29
  let c2560 : Index := 2560#32
  ![0, v522.toNat, 2560]
def k0_off25 (k0_t1 : Fin k0_t1_loop.trips) : Fin 3 → Nat :=
  let c0_225 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v546 : Index := Scalar.indexCast v29
  let c2688 : Index := 2688#32
  ![0, v546.toNat, 2688]
def k0_off26 (k0_t1 : Fin k0_t1_loop.trips) : Fin 3 → Nat :=
  let c0_235 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v570 : Index := Scalar.indexCast v29
  let c2816 : Index := 2816#32
  ![0, v570.toNat, 2816]
def k0_off27 (k0_t1 : Fin k0_t1_loop.trips) : Fin 3 → Nat :=
  let c0_245 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v594 : Index := Scalar.indexCast v29
  let c2944 : Index := 2944#32
  ![0, v594.toNat, 2944]
def k0_off28 (k0_t1 : Fin k0_t1_loop.trips) : Fin 3 → Nat :=
  let c0_255 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v618 : Index := Scalar.indexCast v29
  let c3072 : Index := 3072#32
  ![0, v618.toNat, 3072]
def k0_off29 (k0_t1 : Fin k0_t1_loop.trips) : Fin 3 → Nat :=
  let c0_265 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v642 : Index := Scalar.indexCast v29
  let c3200 : Index := 3200#32
  ![0, v642.toNat, 3200]
def k0_off30 (k0_t1 : Fin k0_t1_loop.trips) : Fin 3 → Nat :=
  let c0_275 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v666 : Index := Scalar.indexCast v29
  let c3328 : Index := 3328#32
  ![0, v666.toNat, 3328]
def k0_off31 (k0_t1 : Fin k0_t1_loop.trips) : Fin 3 → Nat :=
  let c0_285 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v690 : Index := Scalar.indexCast v29
  let c3456 : Index := 3456#32
  ![0, v690.toNat, 3456]
def k0_off32 (k0_t1 : Fin k0_t1_loop.trips) : Fin 3 → Nat :=
  let c0_295 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v714 : Index := Scalar.indexCast v29
  let c3584 : Index := 3584#32
  ![0, v714.toNat, 3584]
def k0_off33 (k0_t1 : Fin k0_t1_loop.trips) : Fin 3 → Nat :=
  let c0_305 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v738 : Index := Scalar.indexCast v29
  let c3712 : Index := 3712#32
  ![0, v738.toNat, 3712]
def k0_off34 (k0_t1 : Fin k0_t1_loop.trips) : Fin 3 → Nat :=
  let c0_315 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v762 : Index := Scalar.indexCast v29
  let c3840 : Index := 3840#32
  ![0, v762.toNat, 3840]
def k0_off35 (k0_t1 : Fin k0_t1_loop.trips) : Fin 3 → Nat :=
  let c0_325 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v786 : Index := Scalar.indexCast v29
  let c3968 : Index := 3968#32
  ![0, v786.toNat, 3968]
def k0_off36 (k0_t1 : Fin k0_t1_loop.trips) : Fin 3 → Nat :=
  let c0_335 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v810 : Index := Scalar.indexCast v29
  let c4096 : Index := 4096#32
  ![0, v810.toNat, 4096]
def k0_off37 (k0_t1 : Fin k0_t1_loop.trips) : Fin 3 → Nat :=
  let c0_345 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v834 : Index := Scalar.indexCast v29
  let c4224 : Index := 4224#32
  ![0, v834.toNat, 4224]
def k0_off38 (k0_t1 : Fin k0_t1_loop.trips) : Fin 3 → Nat :=
  let c0_355 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v858 : Index := Scalar.indexCast v29
  let c4352 : Index := 4352#32
  ![0, v858.toNat, 4352]
def k0_off39 (k0_t1 : Fin k0_t1_loop.trips) : Fin 3 → Nat :=
  let c0_365 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v882 : Index := Scalar.indexCast v29
  let c4480 : Index := 4480#32
  ![0, v882.toNat, 4480]
def k0_off40 (k0_t1 : Fin k0_t1_loop.trips) : Fin 3 → Nat :=
  let c0_375 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v906 : Index := Scalar.indexCast v29
  let c4608 : Index := 4608#32
  ![0, v906.toNat, 4608]
def k0_off41 (k0_t1 : Fin k0_t1_loop.trips) : Fin 3 → Nat :=
  let c0_385 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v930 : Index := Scalar.indexCast v29
  let c4736 : Index := 4736#32
  ![0, v930.toNat, 4736]
def k0_off42 (k0_t1 : Fin k0_t1_loop.trips) : Fin 3 → Nat :=
  let c0_395 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v954 : Index := Scalar.indexCast v29
  let c4864 : Index := 4864#32
  ![0, v954.toNat, 4864]
def k0_off43 (k0_t1 : Fin k0_t1_loop.trips) : Fin 3 → Nat :=
  let c0_405 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v978 : Index := Scalar.indexCast v29
  let c4992 : Index := 4992#32
  ![0, v978.toNat, 4992]
def k0_off44 (k0_t1 : Fin k0_t1_loop.trips) : Fin 3 → Nat :=
  let c0_415 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1002 : Index := Scalar.indexCast v29
  let c5120 : Index := 5120#32
  ![0, v1002.toNat, 5120]
def k0_off45 (k0_t1 : Fin k0_t1_loop.trips) : Fin 3 → Nat :=
  let c0_425 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1026 : Index := Scalar.indexCast v29
  let c5248 : Index := 5248#32
  ![0, v1026.toNat, 5248]
def k0_off46 (k0_t1 : Fin k0_t1_loop.trips) : Fin 3 → Nat :=
  let c0_435 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1050 : Index := Scalar.indexCast v29
  let c5376 : Index := 5376#32
  ![0, v1050.toNat, 5376]
def k0_off47 (k0_t1 : Fin k0_t1_loop.trips) : Fin 3 → Nat :=
  let c0_445 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1074 : Index := Scalar.indexCast v29
  let c5504 : Index := 5504#32
  ![0, v1074.toNat, 5504]
def k0_off48 (k0_t1 : Fin k0_t1_loop.trips) : Fin 3 → Nat :=
  let c0_455 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1098 : Index := Scalar.indexCast v29
  let c5632 : Index := 5632#32
  ![0, v1098.toNat, 5632]
def k0_off49 (k0_t1 : Fin k0_t1_loop.trips) : Fin 3 → Nat :=
  let c0_465 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1122 : Index := Scalar.indexCast v29
  let c5760 : Index := 5760#32
  ![0, v1122.toNat, 5760]
def k0_off50 (k0_t1 : Fin k0_t1_loop.trips) : Fin 3 → Nat :=
  let c0_475 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1146 : Index := Scalar.indexCast v29
  let c5888 : Index := 5888#32
  ![0, v1146.toNat, 5888]
def k0_off51 (k0_t1 : Fin k0_t1_loop.trips) : Fin 3 → Nat :=
  let c0_485 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1170 : Index := Scalar.indexCast v29
  let c6016 : Index := 6016#32
  ![0, v1170.toNat, 6016]
def k0_off52 (k0_t1 : Fin k0_t1_loop.trips) : Fin 3 → Nat :=
  let c0_495 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1194 : Index := Scalar.indexCast v29
  let c6144 : Index := 6144#32
  ![0, v1194.toNat, 6144]
def k0_off53 (k0_t1 : Fin k0_t1_loop.trips) : Fin 3 → Nat :=
  let c0_505 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1218 : Index := Scalar.indexCast v29
  let c6272 : Index := 6272#32
  ![0, v1218.toNat, 6272]
def k0_off54 (k0_t1 : Fin k0_t1_loop.trips) : Fin 3 → Nat :=
  let c0_515 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1242 : Index := Scalar.indexCast v29
  let c6400 : Index := 6400#32
  ![0, v1242.toNat, 6400]
def k0_off55 (k0_t1 : Fin k0_t1_loop.trips) : Fin 3 → Nat :=
  let c0_525 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1266 : Index := Scalar.indexCast v29
  let c6528 : Index := 6528#32
  ![0, v1266.toNat, 6528]
def k0_off56 (k0_t1 : Fin k0_t1_loop.trips) : Fin 3 → Nat :=
  let c0_535 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1290 : Index := Scalar.indexCast v29
  let c6656 : Index := 6656#32
  ![0, v1290.toNat, 6656]
def k0_off57 (k0_t1 : Fin k0_t1_loop.trips) : Fin 3 → Nat :=
  let c0_545 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1314 : Index := Scalar.indexCast v29
  let c6784 : Index := 6784#32
  ![0, v1314.toNat, 6784]
def k0_off58 (k0_t1 : Fin k0_t1_loop.trips) : Fin 3 → Nat :=
  let c0_555 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1338 : Index := Scalar.indexCast v29
  let c6912 : Index := 6912#32
  ![0, v1338.toNat, 6912]
def k0_off59 (k0_t1 : Fin k0_t1_loop.trips) : Fin 3 → Nat :=
  let c0_565 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1362 : Index := Scalar.indexCast v29
  let c7040 : Index := 7040#32
  ![0, v1362.toNat, 7040]
def k0_off60 (k0_t1 : Fin k0_t1_loop.trips) : Fin 3 → Nat :=
  let c0_598 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1459 : Index := Scalar.indexCast v29
  let c0_599 : Index := 0#32
  ![0, v1459.toNat, 0]
def k0_off61 (k0_t1 : Fin k0_t1_loop.trips) : Fin 3 → Nat :=
  let c0_624 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1527 : Index := Scalar.indexCast v29
  let c1 : Index := 1#32
  ![0, v1527.toNat, 1]
def k0_off62 (k0_t1 : Fin k0_t1_loop.trips) : Fin 3 → Nat :=
  let c0_649 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1595 : Index := Scalar.indexCast v29
  let c2 : Index := 2#32
  ![0, v1595.toNat, 2]
def k0_off63 (k0_t1 : Fin k0_t1_loop.trips) : Fin 3 → Nat :=
  let c0_674 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1663 : Index := Scalar.indexCast v29
  let c3 : Index := 3#32
  ![0, v1663.toNat, 3]
def k0_off64 (k0_t1 : Fin k0_t1_loop.trips) : Fin 3 → Nat :=
  let c0_699 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1731 : Index := Scalar.indexCast v29
  let c4 : Index := 4#32
  ![0, v1731.toNat, 4]
def k0_off65 (k0_t1 : Fin k0_t1_loop.trips) : Fin 3 → Nat :=
  let c0_724 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1799 : Index := Scalar.indexCast v29
  let c5 : Index := 5#32
  ![0, v1799.toNat, 5]
def k0_off66 (k0_t1 : Fin k0_t1_loop.trips) : Fin 3 → Nat :=
  let c0_749 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1867 : Index := Scalar.indexCast v29
  let c6 : Index := 6#32
  ![0, v1867.toNat, 6]
def k0_off67 (k0_t1 : Fin k0_t1_loop.trips) : Fin 3 → Nat :=
  let c0_774 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v1935 : Index := Scalar.indexCast v29
  let c7 : Index := 7#32
  ![0, v1935.toNat, 7]
def k0_off68 (k0_t1 : Fin k0_t1_loop.trips) : Fin 3 → Nat :=
  let c0_799 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2003 : Index := Scalar.indexCast v29
  let c8 : Index := 8#32
  ![0, v2003.toNat, 8]
def k0_off69 (k0_t1 : Fin k0_t1_loop.trips) : Fin 3 → Nat :=
  let c0_824 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2071 : Index := Scalar.indexCast v29
  let c9 : Index := 9#32
  ![0, v2071.toNat, 9]
def k0_off70 (k0_t1 : Fin k0_t1_loop.trips) : Fin 3 → Nat :=
  let c0_849 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2139 : Index := Scalar.indexCast v29
  let c10 : Index := 10#32
  ![0, v2139.toNat, 10]
def k0_off71 (k0_t1 : Fin k0_t1_loop.trips) : Fin 3 → Nat :=
  let c0_874 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2207 : Index := Scalar.indexCast v29
  let c11 : Index := 11#32
  ![0, v2207.toNat, 11]
def k0_off72 (k0_t1 : Fin k0_t1_loop.trips) : Fin 3 → Nat :=
  let c0_899 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2275 : Index := Scalar.indexCast v29
  let c12 : Index := 12#32
  ![0, v2275.toNat, 12]
def k0_off73 (k0_t1 : Fin k0_t1_loop.trips) : Fin 3 → Nat :=
  let c0_924 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2343 : Index := Scalar.indexCast v29
  let c13 : Index := 13#32
  ![0, v2343.toNat, 13]
def k0_off74 (k0_t1 : Fin k0_t1_loop.trips) : Fin 3 → Nat :=
  let c0_949 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2411 : Index := Scalar.indexCast v29
  let c14 : Index := 14#32
  ![0, v2411.toNat, 14]
def k0_off75 (k0_t1 : Fin k0_t1_loop.trips) : Fin 3 → Nat :=
  let c0_974 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2479 : Index := Scalar.indexCast v29
  let c15 : Index := 15#32
  ![0, v2479.toNat, 15]
def k0_off76 (k0_t1 : Fin k0_t1_loop.trips) : Fin 3 → Nat :=
  let c0_999 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2547 : Index := Scalar.indexCast v29
  let c16 : Index := 16#32
  ![0, v2547.toNat, 16]
def k0_off77 (k0_t1 : Fin k0_t1_loop.trips) : Fin 3 → Nat :=
  let c0_1024 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2615 : Index := Scalar.indexCast v29
  let c17 : Index := 17#32
  ![0, v2615.toNat, 17]
def k0_off78 (k0_t1 : Fin k0_t1_loop.trips) : Fin 3 → Nat :=
  let c0_1049 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2683 : Index := Scalar.indexCast v29
  let c18 : Index := 18#32
  ![0, v2683.toNat, 18]
def k0_off79 (k0_t1 : Fin k0_t1_loop.trips) : Fin 3 → Nat :=
  let c0_1074 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2751 : Index := Scalar.indexCast v29
  let c19 : Index := 19#32
  ![0, v2751.toNat, 19]
def k0_off80 (k0_t1 : Fin k0_t1_loop.trips) : Fin 3 → Nat :=
  let c0_1099 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2819 : Index := Scalar.indexCast v29
  let c20 : Index := 20#32
  ![0, v2819.toNat, 20]
def k0_off81 (k0_t1 : Fin k0_t1_loop.trips) : Fin 3 → Nat :=
  let c0_1124 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2887 : Index := Scalar.indexCast v29
  let c21 : Index := 21#32
  ![0, v2887.toNat, 21]
def k0_off82 (k0_t1 : Fin k0_t1_loop.trips) : Fin 3 → Nat :=
  let c0_1149 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v2955 : Index := Scalar.indexCast v29
  let c22 : Index := 22#32
  ![0, v2955.toNat, 22]
def k0_off83 (k0_t1 : Fin k0_t1_loop.trips) : Fin 3 → Nat :=
  let c0_1174 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3023 : Index := Scalar.indexCast v29
  let c23 : Index := 23#32
  ![0, v3023.toNat, 23]
def k0_off84 (k0_t1 : Fin k0_t1_loop.trips) : Fin 3 → Nat :=
  let c0_1199 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3091 : Index := Scalar.indexCast v29
  let c24 : Index := 24#32
  ![0, v3091.toNat, 24]
def k0_off85 (k0_t1 : Fin k0_t1_loop.trips) : Fin 3 → Nat :=
  let c0_1224 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3159 : Index := Scalar.indexCast v29
  let c25 : Index := 25#32
  ![0, v3159.toNat, 25]
def k0_off86 (k0_t1 : Fin k0_t1_loop.trips) : Fin 3 → Nat :=
  let c0_1249 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3227 : Index := Scalar.indexCast v29
  let c26 : Index := 26#32
  ![0, v3227.toNat, 26]
def k0_off87 (k0_t1 : Fin k0_t1_loop.trips) : Fin 3 → Nat :=
  let c0_1274 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3295 : Index := Scalar.indexCast v29
  let c27 : Index := 27#32
  ![0, v3295.toNat, 27]
def k0_off88 (k0_t1 : Fin k0_t1_loop.trips) : Fin 3 → Nat :=
  let c0_1299 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3363 : Index := Scalar.indexCast v29
  let c28 : Index := 28#32
  ![0, v3363.toNat, 28]
def k0_off89 (k0_t1 : Fin k0_t1_loop.trips) : Fin 3 → Nat :=
  let c0_1324 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3431 : Index := Scalar.indexCast v29
  let c29 : Index := 29#32
  ![0, v3431.toNat, 29]
def k0_off90 (k0_t1 : Fin k0_t1_loop.trips) : Fin 3 → Nat :=
  let c0_1349 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3499 : Index := Scalar.indexCast v29
  let c30 : Index := 30#32
  ![0, v3499.toNat, 30]
def k0_off91 (k0_t1 : Fin k0_t1_loop.trips) : Fin 3 → Nat :=
  let c0_1374 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3567 : Index := Scalar.indexCast v29
  let c31 : Index := 31#32
  ![0, v3567.toNat, 31]
def k0_off92 (k0_t1 : Fin k0_t1_loop.trips) : Fin 3 → Nat :=
  let c0_1399 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3635 : Index := Scalar.indexCast v29
  let c32 : Index := 32#32
  ![0, v3635.toNat, 32]
def k0_off93 (k0_t1 : Fin k0_t1_loop.trips) : Fin 3 → Nat :=
  let c0_1424 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3703 : Index := Scalar.indexCast v29
  let c33 : Index := 33#32
  ![0, v3703.toNat, 33]
def k0_off94 (k0_t1 : Fin k0_t1_loop.trips) : Fin 3 → Nat :=
  let c0_1449 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3771 : Index := Scalar.indexCast v29
  let c34 : Index := 34#32
  ![0, v3771.toNat, 34]
def k0_off95 (k0_t1 : Fin k0_t1_loop.trips) : Fin 3 → Nat :=
  let c0_1474 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3839 : Index := Scalar.indexCast v29
  let c35 : Index := 35#32
  ![0, v3839.toNat, 35]
def k0_off96 (k0_t1 : Fin k0_t1_loop.trips) : Fin 3 → Nat :=
  let c0_1499 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3907 : Index := Scalar.indexCast v29
  let c36 : Index := 36#32
  ![0, v3907.toNat, 36]
def k0_off97 (k0_t1 : Fin k0_t1_loop.trips) : Fin 3 → Nat :=
  let c0_1524 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v3975 : Index := Scalar.indexCast v29
  let c37 : Index := 37#32
  ![0, v3975.toNat, 37]
def k0_off98 (k0_t1 : Fin k0_t1_loop.trips) : Fin 3 → Nat :=
  let c0_1549 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4043 : Index := Scalar.indexCast v29
  let c38 : Index := 38#32
  ![0, v4043.toNat, 38]
def k0_off99 (k0_t1 : Fin k0_t1_loop.trips) : Fin 3 → Nat :=
  let c0_1574 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4111 : Index := Scalar.indexCast v29
  let c39 : Index := 39#32
  ![0, v4111.toNat, 39]
def k0_off100 (k0_t1 : Fin k0_t1_loop.trips) : Fin 3 → Nat :=
  let c0_1599 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4179 : Index := Scalar.indexCast v29
  let c40 : Index := 40#32
  ![0, v4179.toNat, 40]
def k0_off101 (k0_t1 : Fin k0_t1_loop.trips) : Fin 3 → Nat :=
  let c0_1624 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4247 : Index := Scalar.indexCast v29
  let c41 : Index := 41#32
  ![0, v4247.toNat, 41]
def k0_off102 (k0_t1 : Fin k0_t1_loop.trips) : Fin 3 → Nat :=
  let c0_1649 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4315 : Index := Scalar.indexCast v29
  let c42 : Index := 42#32
  ![0, v4315.toNat, 42]
def k0_off103 (k0_t1 : Fin k0_t1_loop.trips) : Fin 3 → Nat :=
  let c0_1674 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4383 : Index := Scalar.indexCast v29
  let c43 : Index := 43#32
  ![0, v4383.toNat, 43]
def k0_off104 (k0_t1 : Fin k0_t1_loop.trips) : Fin 3 → Nat :=
  let c0_1699 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4451 : Index := Scalar.indexCast v29
  let c44 : Index := 44#32
  ![0, v4451.toNat, 44]
def k0_off105 (k0_t1 : Fin k0_t1_loop.trips) : Fin 3 → Nat :=
  let c0_1724 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4519 : Index := Scalar.indexCast v29
  let c45 : Index := 45#32
  ![0, v4519.toNat, 45]
def k0_off106 (k0_t1 : Fin k0_t1_loop.trips) : Fin 3 → Nat :=
  let c0_1749 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4587 : Index := Scalar.indexCast v29
  let c46 : Index := 46#32
  ![0, v4587.toNat, 46]
def k0_off107 (k0_t1 : Fin k0_t1_loop.trips) : Fin 3 → Nat :=
  let c0_1774 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4655 : Index := Scalar.indexCast v29
  let c47 : Index := 47#32
  ![0, v4655.toNat, 47]
def k0_off108 (k0_t1 : Fin k0_t1_loop.trips) : Fin 3 → Nat :=
  let c0_1799 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4723 : Index := Scalar.indexCast v29
  let c48 : Index := 48#32
  ![0, v4723.toNat, 48]
def k0_off109 (k0_t1 : Fin k0_t1_loop.trips) : Fin 3 → Nat :=
  let c0_1824 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4791 : Index := Scalar.indexCast v29
  let c49 : Index := 49#32
  ![0, v4791.toNat, 49]
def k0_off110 (k0_t1 : Fin k0_t1_loop.trips) : Fin 3 → Nat :=
  let c0_1849 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4859 : Index := Scalar.indexCast v29
  let c50 : Index := 50#32
  ![0, v4859.toNat, 50]
def k0_off111 (k0_t1 : Fin k0_t1_loop.trips) : Fin 3 → Nat :=
  let c0_1874 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4927 : Index := Scalar.indexCast v29
  let c51 : Index := 51#32
  ![0, v4927.toNat, 51]
def k0_off112 (k0_t1 : Fin k0_t1_loop.trips) : Fin 3 → Nat :=
  let c0_1899 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v4995 : Index := Scalar.indexCast v29
  let c52 : Index := 52#32
  ![0, v4995.toNat, 52]
def k0_off113 (k0_t1 : Fin k0_t1_loop.trips) : Fin 3 → Nat :=
  let c0_1924 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v5063 : Index := Scalar.indexCast v29
  let c53 : Index := 53#32
  ![0, v5063.toNat, 53]
def k0_off114 (k0_t1 : Fin k0_t1_loop.trips) : Fin 3 → Nat :=
  let c0_1949 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v5131 : Index := Scalar.indexCast v29
  let c54 : Index := 54#32
  ![0, v5131.toNat, 54]
def k0_off115 (k0_t1 : Fin k0_t1_loop.trips) : Fin 3 → Nat :=
  let c0_1974 : Index := 0#32
  let c0_i32_5 : BitVec 32 := 0#32
  let c1_i32 : BitVec 32 := 1#32
  let arg13 : BitVec 32 := Scf.iv c0_i32_5 c1_i32 k0_t1
  let c32_i32 : BitVec 32 := 32#32
  let v28 : BitVec 32 := Scalar.muli arg13 c32_i32
  let v29 : BitVec 32 := v28
  let v5199 : Index := Scalar.indexCast v29
  let c55 : Index := 55#32
  ![0, v5199.toNat, 55]
def k0_cond2 (i : grid0.Coords) : BitVec 1 :=
  let arg0 : BitVec 32 := BitVec.ofNat 32 (i 0).val
  let c3_i32 : BitVec 32 := 3#32
  let v23 : BitVec 1 := Scalar.cmpi .eq arg0 c3_i32
  let arg1 : BitVec 32 := BitVec.ofNat 32 (i 1).val
  let c2_i32 : BitVec 32 := 2#32
  let v24 : BitVec 1 := Scalar.cmpi .eq arg1 c2_i32
  let v25 : BitVec 1 := Scalar.andi v23 v24
  let v26 : BitVec 32 := Scalar.extui v25
  let c0_i32_7 : BitVec 32 := 0#32
  let v27 : BitVec 1 := Scalar.cmpi .ne v26 c0_i32_7
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x7168 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "inv_d" => some ((1 / 7168 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S4x384x7168 : Shape := ⟨3, ![4, 384, 7168]⟩
abbrev S4x384x56 : Shape := ⟨3, ![4, 384, 56]⟩
abbrev S7168 : Shape := ⟨1, ![7168]⟩
abbrev S4x384 : Shape := ⟨2, ![4, 384]⟩
abbrev S1x7168 : Shape := ⟨2, ![1, 7168]⟩
abbrev S4x384x56x128 : Shape := ⟨4, ![4, 384, 56, 128]⟩
abbrev S4x384x56x1 : Shape := ⟨4, ![4, 384, 56, 1]⟩
abbrev S4x384x1 : Shape := ⟨3, ![4, 384, 1]⟩
abbrev S1x1x7168 : Shape := ⟨3, ![1, 1, 7168]⟩

abbrev nBuf : Space → Nat
  | .hbm => 9
  | .vmem => 9
  | .smem => 0
  | _ => 0

abbrev bufTy : (tb : Table) → Fin (tcTables nBuf tb) → BufTy
  | .hbm, ⟨0, _⟩ => ⟨S4x384x7168, .fp8e4m3⟩
  | .hbm, ⟨1, _⟩ => ⟨S4x384x56, .f32⟩
  | .hbm, ⟨2, _⟩ => ⟨S4x384x7168, .fp8e5m2⟩
  | .hbm, ⟨3, _⟩ => ⟨S4x384x56, .f32⟩
  | .hbm, ⟨4, _⟩ => ⟨S7168, .f32⟩
  | .hbm, ⟨5, _⟩ => ⟨S4x384, .f32⟩
  | .hbm, ⟨6, _⟩ => ⟨S1x7168, .f32⟩
  | .hbm, ⟨7, _⟩ => ⟨S4x384x7168, .fp8e4m3⟩
  | .hbm, ⟨8, _⟩ => ⟨S4x384x56, .f32⟩
  | .local _ .vmem, ⟨0, _⟩ => ⟨S4x384x7168, .fp8e4m3⟩
  | .local _ .vmem, ⟨1, _⟩ => ⟨S4x384x56, .f32⟩
  | .local _ .vmem, ⟨2, _⟩ => ⟨S4x384x7168, .fp8e5m2⟩
  | .local _ .vmem, ⟨3, _⟩ => ⟨S4x384x56, .f32⟩
  | .local _ .vmem, ⟨4, _⟩ => ⟨S7168, .f32⟩
  | .local _ .vmem, ⟨5, _⟩ => ⟨S4x384, .f32⟩
  | .local _ .vmem, ⟨6, _⟩ => ⟨S1x7168, .f32⟩
  | .local _ .vmem, ⟨7, _⟩ => ⟨S4x384x7168, .fp8e4m3⟩
  | .local _ .vmem, ⟨8, _⟩ => ⟨S4x384x56, .f32⟩
  | _, _ => ⟨S4x384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384x7168 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x384x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x384x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Loop.lean ====
/- The counted loop of the kernel: what one trip writes, and the loop by an invariant whose pieces do not mention what the two output windows held at
   loop entry. A trip reads the output windows only to discard what it read, so its pieces do not depend on their
   contents (`trip_out`, `trip_scale`, `trip_acc`); the invariant therefore states the pieces of the trips so far
   at arbitrary window contents, and a run that goes through the loop by it can hand the windows on with pieces that
   are known before it starts. -/
module

public import proofs.«01_k».proof.Proof.Gen.Kernel.Loops

@[expose] public section

set_option maxRecDepth 8192
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resource algebra of the frame runs. -/
local notation "𝕄G" => MT nD τ sig Unit (Elt F) ℕ (UR sig nD τ) ℕ

/-! ### One trip of the loop -/

/-- One trip's resources: what the region reads (arg2, arg3, arg4, arg5, arg6, arg12) at its
   contents, what it writes (arg9, arg10, arg11) at any. -/
abbrev Trip_k0_t1 (c : Dev nD) (arg2 : Memref sig .tc .vmem S1x128x7168 .fp8e4m3) (arg3 : Memref sig .tc .vmem S1x128x56 .f32) (arg4 : Memref sig .tc .vmem S1x128x7168 .fp8e5m2) (arg5 : Memref sig .tc .vmem S1x128x56 .f32) (arg6 : Memref sig .tc .vmem S1x7168 .f32) (arg12 : Memref sig .tc .vmem S128x128 .f32) (arg9 : Memref sig .tc .vmem S1x128x7168 .fp8e4m3) (arg10 : Memref sig .tc .vmem S1x128x56 .f32) (arg11 : Memref sig .tc .vmem S8x7168 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (f_arg9 : BufTy.Contents (Elt F) arg9.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg9, arg10, arg11 are
   the run's own finds — the witnesses `sl_close` assigns handing the buffers to the continuation,
   as functions of the contents the trip finds in the memrefs it writes (the region loads some of
   them back). `@[irreducible]`: cited, never unfolded. -/
@[irreducible] def trip_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (k : Fin k0_t1_loop.trips) :
    Σ' (L_arg9 : (BufTy.Contents (Elt F) arg9.view.ty → BufTy.Contents (Elt F) arg10.view.ty → BufTy.Contents (Elt F) arg11.view.ty → List (View.Piece (Elt F) S1x128x7168 .fp8e4m3))) (L_arg10 : (BufTy.Contents (Elt F) arg9.view.ty → BufTy.Contents (Elt F) arg10.view.ty → BufTy.Contents (Elt F) arg11.view.ty → List (View.Piece (Elt F) S1x128x56 .f32))) , { L_arg11 : (BufTy.Contents (Elt F) arg9.view.ty → BufTy.Contents (Elt F) arg10.view.ty → BufTy.Contents (Elt F) arg11.view.ty → List (View.Piece (Elt F) S8x7168 .f32)) // ∀ (E : Set ℕ) (f_arg9 : BufTy.Contents (Elt F) arg9.view.ty) (f_arg10 : BufTy.Contents (Elt F) arg10.view.ty) (f_arg11 : BufTy.Contents (Elt F) arg11.view.ty),
      Trip_k0_t1 (F := F) c arg2 arg3 arg4 arg5 arg6 arg12 arg9 arg10 arg11 X_arg2 X_arg3 X_arg4 X_arg5 X_arg6 X_arg12 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Trip_k0_t1 (F := F) c arg2 arg3 arg4 arg5 arg6 arg12 arg9 arg10 arg11 X_arg2 X_arg3 X_arg4 X_arg5 X_arg6 X_arg12 (arg9.view.writes (Elt F) f_arg9 (L_arg9 f_arg9 f_arg10 f_arg11)) (arg10.view.writes (Elt F) f_arg10 (L_arg10 f_arg9 f_arg10 f_arg11)) (arg11.view.writes (Elt F) f_arg11 (L_arg11 f_arg9 f_arg10 f_arg11))) } := by
  have hk : k.val < 4 := Nat.lt_of_lt_of_le k.isLt k0_t1_abs.2.1
  refine ⟨?_, ?_, ?_, fun E f_arg9 f_arg10 f_arg11 => ?run⟩
  case run =>
    unfold k0_t1_body
    iintro ⟨HR_arg2, HR_arg3, HR_arg4, HR_arg5, HR_arg6, HR_arg12, HW_arg9, HW_arg10, HW_arg11⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (k : Fin k0_t1_loop.trips) (f_arg9 : BufTy.Contents (Elt F) arg9.view.ty) (f_arg10 : BufTy.Contents (Elt F) arg10.view.ty) (f_arg11 : BufTy.Contents (Elt F) arg11.view.ty) : List (View.Piece (Elt F) S1x128x7168 .fp8e4m3) × List (View.Piece (Elt F) S1x128x56 .f32) × List (View.Piece (Elt F) S8x7168 .f32) :=
  ((trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 f_arg9 f_arg10 f_arg11, (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 f_arg9 f_arg10 f_arg11, (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 f_arg9 f_arg10 f_arg11)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : ℕ) (prev : List (View.Piece (Elt F) S1x128x7168 .fp8e4m3) × List (View.Piece (Elt F) S1x128x56 .f32) × List (View.Piece (Elt F) S8x7168 .f32)) : List (View.Piece (Elt F) S1x128x7168 .fp8e4m3) × List (View.Piece (Elt F) S1x128x56 .f32) × List (View.Piece (Elt F) S8x7168 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).2.2 ++ prev.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) : ℕ → List (View.Piece (Elt F) S1x128x7168 .fp8e4m3) × List (View.Piece (Elt F) S1x128x56 .f32) × List (View.Piece (Elt F) S8x7168 .f32)
  | 0 => ([], [], [])
  | k + 1 => pb_k0_t1Step 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k (pb_k0_t1 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k)

theorem pb_k0_t1_succ (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).1 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).2.2 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2) := by
  rw [pb_k0_t1.eq_2]; unfold pb_k0_t1Step; exact dif_pos k.isLt

section
variable (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty)

/-- One trip's pieces for the codes do not depend on what the written buffers held. -/
theorem trip_out (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) (g_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 g_arg9 g_arg10 g_arg11 := by
  sl_kernel_rfl

/-- One trip's pieces for the scales do not depend on what the written buffers held. -/
theorem trip_scale (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) (g_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 g_arg9 g_arg10 g_arg11 := by
  sl_kernel_rfl

/-- One trip's pieces for the accumulator depend only on what the accumulator held. -/
theorem trip_acc (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 g_arg9 g_arg10 f_arg11 := by
  sl_kernel_rfl

end

/-- The invariant before trip `k`: the pieces of the trips before `k` over the contents at loop entry, the pieces
    taken at arbitrary contents of the two output windows. -/
abbrev invJ_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).2.2⌝))

set_option warn.classDefReducibility false in
/-- The loop by that invariant (`sl_exec` takes it before the invariant whose pieces mention the windows' contents). -/
@[sl_loop] def loopInvJ_k0_t1 (𝒱 : Variants) (c : Dev nD) (bd : Option 𝒱.V) (E : Set ℕ) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 where
  inv := invJ_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11
  step k acc := by
    iintro ⟨HR_arg2, HR_arg3, HR_arg4, HR_arg5, HR_arg6, HR_arg12, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg2 HR_arg3 HR_arg4 HR_arg5 HR_arg6 HR_arg12 HW_arg9 HW_arg10 HW_arg11]
    · iapply ((trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.2 E f_arg9 f_arg10 f_arg11)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg12]; · iexact HR_arg12
      isplitl [HW_arg9]; · iexact HW_arg9
      isplitl [HW_arg10]; · iexact HW_arg10
      iexact HW_arg11
    · iintro %_ ⟨HR_arg2, HR_arg3, HR_arg4, HR_arg5, HR_arg6, HR_arg12, HW_arg9, HW_arg10, HW_arg11⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg12]; · iexact HR_arg12
      rw [pb_k0_t1_succ]
      isplitl [HW_arg9]
      · iexists _; isplitl [HW_arg9]; · iexact HW_arg9
        ipureintro; rw [h_arg9, h_arg10, h_arg11, ← View.writes_append]
        exact congrArg (fun l => arg9.view.writes (Elt F) G_arg9 (l ++ _)) (trip_out 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _ _)
      isplitl [HW_arg10]
      · iexists _; isplitl [HW_arg10]; · iexact HW_arg10
        ipureintro; rw [h_arg9, h_arg10, h_arg11, ← View.writes_append]
        exact congrArg (fun l => arg10.view.writes (Elt F) G_arg10 (l ++ _)) (trip_scale 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _ _)
      iexists _; isplitl [HW_arg11]; · iexact HW_arg11
      ipureintro; rw [h_arg9, h_arg10, h_arg11, ← View.writes_append]
      exact congrArg (fun l => arg11.view.writes (Elt F) G_arg11 (l ++ _)) (trip_acc 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _)

end Cert.Kernel.Hand

end
-- ==== Proof.Kernel.Runs.lean ====
/- What the three runs of the body of `Cert.Kernel` share: the frame kit and everything the runs are stated
   over — the branch conditions in closed form over the grid points, where the windows are idle, the staging and
   scratch memrefs.
   The text follows the generated certificate; its loop is gone through by the invariant of `Loop`. -/
module

public import proofs.«01_k».proof.Proof.Gen.Kernel.Launch
public import proofs.«01_k».proof.Proof.Gen.Kernel.Skeleton
public import proofs.«01_k».proof.Proof.Gen.Kernel.Loops
public import proofs.«01_k».proof.Proof.Kernel.Loop
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x7168 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x7168 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x56 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x7168 .f32 := Memref.whole cc0_scratch0
abbrev scM0_1 : Memref sig .tc .vmem S128x128 .f32 := Memref.whole cc0_scratch1
/-- The scratch `arg11` the kernel carries between points, as a view: what it holds is stated through it. -/
abbrev VS0_0 : View sig .tc .vmem S8x7168 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
/- The run of the body of `Cert.Kernel` at the first grid point (the accumulator is zeroed, the weight gradient not stored).
   The text follows the generated certificate; its loop is gone through by the invariant of `Loop`. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8) at anything, handed back at some contents nothing names. -/
noncomputable def kernelRun0_A (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) :
    { LS0 : List (View.Piece (Elt F) S8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    iexists _, _; isplitr; swap; · iexact HS1
    ipureintro; rfl

end Cert.Kernel.Hand

end
-- ==== Proof.Kernel.RunB.lean ====
/- The run of the body of `Cert.Kernel` at the grid points between the first and the last.
   The text follows the generated certificate; its loop is gone through by the invariant of `Loop`. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 10: 10 of 12), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8) at anything, handed back at some contents nothing names. -/
noncomputable def kernelRun0_B (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) :
    { LS0 : List (View.Piece (Elt F) S8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    iexists _, _; isplitr; swap; · iexact HS1
    ipureintro; rfl

end Cert.Kernel.Hand

end
-- ==== Proof.Kernel.RunC.lean ====
/- The run of the body of `Cert.Kernel` at the last grid point (the weight gradient is stored).
   The text follows the generated certificate; its loop is gone through by the invariant of `Loop`. -/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8) at anything, handed back at some contents nothing names. -/
noncomputable def kernelRun0_C (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) :
    { LS0 : List (View.Piece (Elt F) S8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    iexists _, _; isplitr; swap; · iexact HS1
    ipureintro; rfl

end Cert.Kernel.Hand

end
-- ==== Proof.Kernel.Frame.lean ====
/- The frame of `Cert.Kernel`: every terminating run leaves the argument arrays as they were and the semaphores at zero.
   The text follows the generated certificate; its loop is gone through by the invariant of `Loop`. -/
module

public import proofs.«01_k».proof.Proof.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: one of them a store of the WHOLE buffer (Lib/Ring.lean `sl_whole_mem`). -/
theorem scover0_A_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (y : S8x7168.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 (by sl_whole_mem) y

/-- What case A leaves in scratch `arg11`: its pieces read back over junk. -/
def sout0_A_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) : Vec F S8x7168 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case B's pieces for scratch `arg11`, which the kernel carries between points, cover it: 224 pieces of `S8x128` tiling it (Lib/Ring.lean `Piece.tiledL`). -/
theorem scover0_B_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S8x7168.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).1 S8x128.size (by sl_kernel_rfl) y

/-- What case B leaves in scratch `arg11`: its pieces read back over junk. -/
def sout0_B_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S8x7168 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).1)

/-- Case C's pieces for scratch `arg11`, which the kernel carries between points, cover it: 224 pieces of `S8x128` tiling it (Lib/Ring.lean `Piece.tiledL`). -/
theorem scover0_C_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S8x7168.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1 S8x128.size (by sl_kernel_rfl) y

/-- What case C leaves in scratch `arg11`: its pieces read back over junk. -/
def sout0_C_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S8x7168 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x7168 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 12 = 0 then
      if h1 : (n + 1) % 12 = 11 then
        False.elim (by have hN : n + 1 < 12 := lt_of_lt_of_eq hn (show cfg0.N = 12 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 12 = 11 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 12 = 0) (h1 : ¬t.val % 12 = 11) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · exfalso; have hN : t.val < 12 := lt_of_lt_of_eq t.isLt (show cfg0.N = 12 from N_0); omega
  · by_cases h1 : t.val % 12 = 11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 12 := lt_of_lt_of_eq t.isLt (show cfg0.N = 12 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 12 := lt_of_lt_of_eq t.isLt (show cfg0.N = 12 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 12 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.KernelIdeal.Loop.lean ====
/- The counted loop of the kernel: what one trip writes, and the loop by an invariant whose pieces do not mention what the two output windows held at
   loop entry. A trip reads the output windows only to discard what it read, so its pieces do not depend on their
   contents (`trip_out`, `trip_scale`, `trip_acc`); the invariant therefore states the pieces of the trips so far
   at arbitrary window contents, and a run that goes through the loop by it can hand the windows on with pieces that
   are known before it starts. -/
module

public import proofs.«01_k».proof.Proof.Gen.KernelIdeal.Loops

@[expose] public section

set_option maxRecDepth 8192
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resource algebra of the frame runs. -/
local notation "𝕄G" => MT nD τ sig Unit (Elt F) ℕ (UR sig nD τ) ℕ

/-! ### One trip of the loop -/

/-- One trip's resources: what the region reads (arg2, arg3, arg4, arg5, arg6, arg12) at its
   contents, what it writes (arg9, arg10, arg11) at any. -/
abbrev Trip_k0_t1 (c : Dev nD) (arg2 : Memref sig .tc .vmem S1x128x7168 .fp8e4m3) (arg3 : Memref sig .tc .vmem S1x128x56 .f32) (arg4 : Memref sig .tc .vmem S1x128x7168 .fp8e5m2) (arg5 : Memref sig .tc .vmem S1x128x56 .f32) (arg6 : Memref sig .tc .vmem S1x7168 .f32) (arg12 : Memref sig .tc .vmem S128x128 .f32) (arg9 : Memref sig .tc .vmem S1x128x7168 .fp8e4m3) (arg10 : Memref sig .tc .vmem S1x128x56 .f32) (arg11 : Memref sig .tc .vmem S8x7168 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (f_arg9 : BufTy.Contents (Elt F) arg9.view.ty) (f_arg10 : BufTy.Contents (Elt F) arg10.view.ty) (f_arg11 : BufTy.Contents (Elt F) arg11.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- ONE TRIP of `k0_t1_loop` at a symbolic `k`, run by `sl_exec` (its rectangles' offsets closed
   forms of `k`, their geometry linear arithmetic): the pieces it writes into arg9, arg10, arg11 are
   the run's own finds — the witnesses `sl_close` assigns handing the buffers to the continuation,
   as functions of the contents the trip finds in the memrefs it writes (the region loads some of
   them back). `@[irreducible]`: cited, never unfolded. -/
@[irreducible] def trip_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (k : Fin k0_t1_loop.trips) :
    Σ' (L_arg9 : (BufTy.Contents (Elt F) arg9.view.ty → BufTy.Contents (Elt F) arg10.view.ty → BufTy.Contents (Elt F) arg11.view.ty → List (View.Piece (Elt F) S1x128x7168 .fp8e4m3))) (L_arg10 : (BufTy.Contents (Elt F) arg9.view.ty → BufTy.Contents (Elt F) arg10.view.ty → BufTy.Contents (Elt F) arg11.view.ty → List (View.Piece (Elt F) S1x128x56 .f32))) , { L_arg11 : (BufTy.Contents (Elt F) arg9.view.ty → BufTy.Contents (Elt F) arg10.view.ty → BufTy.Contents (Elt F) arg11.view.ty → List (View.Piece (Elt F) S8x7168 .f32)) // ∀ (E : Set ℕ) (f_arg9 : BufTy.Contents (Elt F) arg9.view.ty) (f_arg10 : BufTy.Contents (Elt F) arg10.view.ty) (f_arg11 : BufTy.Contents (Elt F) arg11.view.ty),
      Trip_k0_t1 (F := F) c arg2 arg3 arg4 arg5 arg6 arg12 arg9 arg10 arg11 X_arg2 X_arg3 X_arg4 X_arg5 X_arg6 X_arg12 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Trip_k0_t1 (F := F) c arg2 arg3 arg4 arg5 arg6 arg12 arg9 arg10 arg11 X_arg2 X_arg3 X_arg4 X_arg5 X_arg6 X_arg12 (arg9.view.writes (Elt F) f_arg9 (L_arg9 f_arg9 f_arg10 f_arg11)) (arg10.view.writes (Elt F) f_arg10 (L_arg10 f_arg9 f_arg10 f_arg11)) (arg11.view.writes (Elt F) f_arg11 (L_arg11 f_arg9 f_arg10 f_arg11))) } := by
  have hk : k.val < 4 := Nat.lt_of_lt_of_le k.isLt k0_t1_abs.2.1
  refine ⟨?_, ?_, ?_, fun E f_arg9 f_arg10 f_arg11 => ?run⟩
  case run =>
    unfold k0_t1_body
    iintro ⟨HR_arg2, HR_arg3, HR_arg4, HR_arg5, HR_arg6, HR_arg12, HW_arg9, HW_arg10, HW_arg11⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (k : Fin k0_t1_loop.trips) (f_arg9 : BufTy.Contents (Elt F) arg9.view.ty) (f_arg10 : BufTy.Contents (Elt F) arg10.view.ty) (f_arg11 : BufTy.Contents (Elt F) arg11.view.ty) : List (View.Piece (Elt F) S1x128x7168 .fp8e4m3) × List (View.Piece (Elt F) S1x128x56 .f32) × List (View.Piece (Elt F) S8x7168 .f32) :=
  ((trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 f_arg9 f_arg10 f_arg11, (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 f_arg9 f_arg10 f_arg11, (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 f_arg9 f_arg10 f_arg11)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : ℕ) (prev : List (View.Piece (Elt F) S1x128x7168 .fp8e4m3) × List (View.Piece (Elt F) S1x128x56 .f32) × List (View.Piece (Elt F) S8x7168 .f32)) : List (View.Piece (Elt F) S1x128x7168 .fp8e4m3) × List (View.Piece (Elt F) S1x128x56 .f32) × List (View.Piece (Elt F) S8x7168 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 ⟨k, h⟩ (arg9.view.writes (Elt F) G_arg9 prev.1) (arg10.view.writes (Elt F) G_arg10 prev.2.1) (arg11.view.writes (Elt F) G_arg11 prev.2.2)).2.2 ++ prev.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) : ℕ → List (View.Piece (Elt F) S1x128x7168 .fp8e4m3) × List (View.Piece (Elt F) S1x128x56 .f32) × List (View.Piece (Elt F) S8x7168 .f32)
  | 0 => ([], [], [])
  | k + 1 => pb_k0_t1Step 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k (pb_k0_t1 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k)

theorem pb_k0_t1_succ (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).1 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1, (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2)).2.2 ++ (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11 k.val).2.2) := by
  rw [pb_k0_t1.eq_2]; unfold pb_k0_t1Step; exact dif_pos k.isLt

section
variable (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty)

/-- One trip's pieces for the codes do not depend on what the written buffers held. -/
theorem trip_out (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) (g_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 g_arg9 g_arg10 g_arg11 := by
  sl_kernel_rfl

/-- One trip's pieces for the scales do not depend on what the written buffers held. -/
theorem trip_scale (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) (g_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 g_arg9 g_arg10 g_arg11 := by
  sl_kernel_rfl

/-- One trip's pieces for the accumulator depend only on what the accumulator held. -/
theorem trip_acc (k : Fin k0_t1_loop.trips) (f_arg9 : BufTy.Contents (Elt F) arg9.view.ty) (f_arg10 : BufTy.Contents (Elt F) arg10.view.ty) (f_arg11 : BufTy.Contents (Elt F) arg11.view.ty) (g_arg9 : BufTy.Contents (Elt F) arg9.view.ty) (g_arg10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 f_arg9 f_arg10 f_arg11 = (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 g_arg9 g_arg10 f_arg11 := by
  sl_kernel_rfl

end

/-- The invariant before trip `k`: the pieces of the trips before `k` over the contents at loop entry, the pieces
    taken at arbitrary contents of the two output windows. -/
abbrev invJ_k0_t1 (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 arg9.view.junk arg10.view.junk G_arg11 k).2.2⌝))

set_option warn.classDefReducibility false in
/-- The loop by that invariant (`sl_exec` takes it before the invariant whose pieces mention the windows' contents). -/
@[sl_loop] def loopInvJ_k0_t1 (𝒱 : Variants) (c : Dev nD) (bd : Option 𝒱.V) (E : Set ℕ) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (G_arg9 : BufTy.Contents (Elt F) arg9.view.ty) (G_arg10 : BufTy.Contents (Elt F) arg10.view.ty) (G_arg11 : BufTy.Contents (Elt F) arg11.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 where
  inv := invJ_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 G_arg9 G_arg10 G_arg11
  step k acc := by
    iintro ⟨HR_arg2, HR_arg3, HR_arg4, HR_arg5, HR_arg6, HR_arg12, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg2 HR_arg3 HR_arg4 HR_arg5 HR_arg6 HR_arg12 HW_arg9 HW_arg10 HW_arg11]
    · iapply ((trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.2 E f_arg9 f_arg10 f_arg11)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg12]; · iexact HR_arg12
      isplitl [HW_arg9]; · iexact HW_arg9
      isplitl [HW_arg10]; · iexact HW_arg10
      iexact HW_arg11
    · iintro %_ ⟨HR_arg2, HR_arg3, HR_arg4, HR_arg5, HR_arg6, HR_arg12, HW_arg9, HW_arg10, HW_arg11⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg12]; · iexact HR_arg12
      rw [pb_k0_t1_succ]
      isplitl [HW_arg9]
      · iexists _; isplitl [HW_arg9]; · iexact HW_arg9
        ipureintro; rw [h_arg9, h_arg10, h_arg11, ← View.writes_append]
        exact congrArg (fun l => arg9.view.writes (Elt F) G_arg9 (l ++ _)) (trip_out 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _ _)
      isplitl [HW_arg10]
      · iexists _; isplitl [HW_arg10]; · iexact HW_arg10
        ipureintro; rw [h_arg9, h_arg10, h_arg11, ← View.writes_append]
        exact congrArg (fun l => arg10.view.writes (Elt F) G_arg10 (l ++ _)) (trip_scale 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _ _)
      iexists _; isplitl [HW_arg11]; · iexact HW_arg11
      ipureintro; rw [h_arg9, h_arg10, h_arg11, ← View.writes_append]
      exact congrArg (fun l => arg11.view.writes (Elt F) G_arg11 (l ++ _)) (trip_acc 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k _ _ _ _ _)

end Cert.KernelIdeal.Hand

end
-- ==== Proof.KernelIdeal.Runs.lean ====
/- What the three runs of the body of `Cert.KernelIdeal` share: the frame kit and everything the runs are stated
   over — the branch conditions in closed form over the grid points, where the windows are idle, the staging and
   scratch memrefs.
   The text follows the generated certificate; its loop is gone through by the invariant of `Loop`. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Loop
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1x7168 .f32 := (Memref.whole cc0_stg6_0 : Memref sig .tc .vmem S1x7168 .f32).view
/-- One staging buffer of output window 7, through which its contents are stated (`View.read_writes_of_cover`: the
    choice does not matter). -/
abbrev VO0_7 : View sig .tc .vmem S1x128x7168 .fp8e4m3 := (Memref.whole cc0_stg7_0 : Memref sig .tc .vmem S1x128x7168 .fp8e4m3).view
/-- One staging buffer of output window 8, through which its contents are stated (`View.read_writes_of_cover`: the
    choice does not matter). -/
abbrev VO0_8 : View sig .tc .vmem S1x128x56 .f32 := (Memref.whole cc0_stg8_0 : Memref sig .tc .vmem S1x128x56 .f32).view
/-- Each window's current staging memref at point `t`, spelled as the pipeline passes it (`bodyAt0`), and its wholeness. -/
abbrev ms0_0 (t : Fin cfg0.N) : Memref sig .tc .vmem S1x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x7168 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x7168 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x56 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8x7168 .f32 := Memref.whole cc0_scratch0
abbrev scM0_1 : Memref sig .tc .vmem S128x128 .f32 := Memref.whole cc0_scratch1
/-- The scratch `arg11` the kernel carries between points, as a view: what it holds is stated through it. -/
abbrev VS0_0 : View sig .tc .vmem S8x7168 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
/- The run of the body of `Cert.KernelIdeal` at the first grid point (the accumulator is zeroed, the weight gradient not stored).
   The text follows the generated certificate; its loop is gone through by the invariant of `Loop`. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) :
    Σ' (L6 : List (View.Piece (Elt F) S1x7168 .f32)), Σ' (L7 : List (View.Piece (Elt F) S1x128x7168 .fp8e4m3)), Σ' (L8 : List (View.Piece (Elt F) S1x128x56 .f32)), { LS0 : List (View.Piece (Elt F) S8x7168 .f32) //
      ∀ (xi6 : Vec F S1x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _, _; isplitr; swap; · iexact HS1
    ipureintro; rfl

end Cert.KernelIdeal.Hand

end
-- ==== Proof.KernelIdeal.RunB.lean ====
/- The run of the body of `Cert.KernelIdeal` at the grid points between the first and the last.
   The text follows the generated certificate; its loop is gone through by the invariant of `Loop`. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 10: 10 of 12), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) :
    Σ' (L6 : List (View.Piece (Elt F) S1x7168 .f32)), Σ' (L7 : List (View.Piece (Elt F) S1x128x7168 .fp8e4m3)), Σ' (L8 : List (View.Piece (Elt F) S1x128x56 .f32)), { LS0 : List (View.Piece (Elt F) S8x7168 .f32) //
      ∀ (xi6 : Vec F S1x7168 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _, _; isplitr; swap; · iexact HS1
    ipureintro; rfl

end Cert.KernelIdeal.Hand

end
-- ==== Proof.KernelIdeal.RunC.lean ====
/- The run of the body of `Cert.KernelIdeal` at the last grid point (the weight gradient is stored).
   The text follows the generated certificate; its loop is gone through by the invariant of `Loop`. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) :
    Σ' (L6 : List (View.Piece (Elt F) S1x7168 .f32)), Σ' (L7 : List (View.Piece (Elt F) S1x128x7168 .fp8e4m3)), Σ' (L8 : List (View.Piece (Elt F) S1x128x56 .f32)), { LS0 : List (View.Piece (Elt F) S8x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_rmsnorm_bwd_eq_skeleton]; unfold cc0_rmsnorm_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _, _; isplitr; swap; · iexact HS1
    ipureintro; rfl

end Cert.KernelIdeal.Hand

end
-- ==== Proof.KernelIdeal.Frame.lean ====
/- The frame of `Cert.KernelIdeal`: every terminating run leaves the argument arrays as they were and the semaphores at zero.
   The text follows the generated certificate; its loop is gone through by the invariant of `Loop`. -/
module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) : Vec F S1x7168 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for output 7 tile its block (224 stores of `S1x32x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (y : S1x128x7168.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1x32x128.size (by sl_kernel_rfl) y

/-- What case A leaves in output 7's staging buffer: its pieces read back over junk. -/
def out0_A_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) : Vec F S1x128x7168 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A's pieces for output 8 tile its block (224 stores of `S1x32x1`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (y : S1x128x56.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1x32x1.size (by sl_kernel_rfl) y

/-- What case A leaves in output 8's staging buffer: its pieces read back over junk. -/
def out0_A_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) : Vec F S1x128x56 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for scratch `arg11`, which the kernel carries between points, cover it: one of them a store of the WHOLE buffer (Lib/Ring.lean `sl_whole_mem`). -/
theorem scover0_A_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (y : S8x7168.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 (by sl_whole_mem) y

/-- What case A leaves in scratch `arg11`: its pieces read back over junk. -/
def sout0_A_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) : Vec F S8x7168 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x7168 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).1)

/-- Case B's pieces for output 7 tile its block (224 stores of `S1x32x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S1x128x7168.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.1 S1x32x128.size (by sl_kernel_rfl) y

/-- What case B leaves in output 7's staging buffer: its pieces read back over junk. -/
def out0_B_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x128x7168 .fp8e4m3 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.1)

/-- Case B's pieces for output 8 tile its block (224 stores of `S1x32x1`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S1x128x56.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1 S1x32x1.size (by sl_kernel_rfl) y

/-- What case B leaves in output 8's staging buffer: its pieces read back over junk. -/
def out0_B_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x128x56 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1)

/-- Case B's pieces for scratch `arg11`, which the kernel carries between points, cover it: 224 pieces of `S8x128` tiling it (Lib/Ring.lean `Piece.tiledL`). -/
theorem scover0_B_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S8x7168.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1 S8x128.size (by sl_kernel_rfl) y

/-- What case B leaves in scratch `arg11`: its pieces read back over junk. -/
def sout0_B_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : ¬cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S8x7168 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1)

/-- Case C's pieces for output 6 tile its block (1 store of `S1x7168`, checked by the kernel's evaluation: Lib/Ring.lean `Piece.tiledL`, linear in the pieces, through a loop's `@[irreducible]` trip theorem too), so they cover it. -/
theorem cover0_C_6 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S1x7168.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1 S1x7168.size (by sl_kernel_rfl) y

/-- What case C leaves in output 6's staging buffer: its pieces read back over junk. -/
def out0_C_6 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x7168 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).1)

/-- Case C's pieces for output 7 tile its block (224 stores of `S1x32x128`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S1x128x7168.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.1 S1x32x128.size (by sl_kernel_rfl) y

/-- What case C leaves in output 7's staging buffer: its pieces read back over junk. -/
def out0_C_7 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x128x7168 .fp8e4m3 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.1)

/-- Case C's pieces for output 8 tile its block (224 stores of `S1x32x1`, checked by the kernel's evaluation: Lib/Ring.lean `Piece.tiledL`, linear in the pieces, through a loop's `@[irreducible]` trip theorem too), so they cover it. -/
theorem cover0_C_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S1x128x56.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1 S1x32x1.size (by sl_kernel_rfl) y

/-- What case C leaves in output 8's staging buffer: its pieces read back over junk. -/
def out0_C_8 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S1x128x56 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.1)

/-- Case C's pieces for scratch `arg11`, which the kernel carries between points, cover it: 224 pieces of `S8x128` tiling it (Lib/Ring.lean `Piece.tiledL`). -/
theorem scover0_C_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) (y : S8x7168.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1 S8x128.size (by sl_kernel_rfl) y

/-- What case C leaves in scratch `arg11`: its pieces read back over junk. -/
def sout0_C_0 (c : Dev nD) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (hc0 : ¬cond0_0 i) (hc1 : cond0_1 i)
    (x0 : Vec F S1x128x7168 .fp8e4m3) (x1 : Vec F S1x128x56 .f32) (x2 : Vec F S1x128x7168 .fp8e5m2) (x3 : Vec F S1x128x56 .f32) (x4 : Vec F S1x7168 .f32) (x5 : Vec F S4x384 .f32) (xs0 : Vec F S8x7168 .f32) : Vec F S8x7168 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x7168 .f32 × Vec F S1x128x7168 .fp8e4m3 × Vec F S1x128x56 .f32 × Vec F S8x7168 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 12 = 11 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2)

/-- `outsAt0` at a point of case A: that case's contents. -/
theorem outsAt0_A (c : Dev nD) (t : Fin cfg0.N) (h0 : t.val % 12 = 0) (h1 : ¬t.val % 12 = 11) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · rw [PhiS_castSucc m c t, PhiS_zero m c _ _ hz, PhiA0_eq]
        rw [outsAt0_A m c t h0 h1]
        unfold out0_A_7 out0_A_8 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _)
      · exfalso; have hN : t.val < 12 := lt_of_lt_of_eq t.isLt (show cfg0.N = 12 from N_0); omega
  · by_cases h1 : t.val % 12 = 11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 12 := lt_of_lt_of_eq t.isLt (show cfg0.N = 12 from N_0); omega
      · rw [PhiS_castSucc m c t, PhiS_pos m c _ _ hz]
        rw [outsAt0_C m c t h0 h1]
        unfold out0_C_6 out0_C_7 out0_C_8 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 12 := lt_of_lt_of_eq t.isLt (show cfg0.N = 12 from N_0); omega
      · rw [PhiS_castSucc m c t, PhiS_pos m c _ _ hz]
        rw [outsAt0_B m c t h0 h1]
        unfold out0_B_7 out0_B_8 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 12 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.KernelIdeal.Value.lean ====
/- What `Cert.KernelIdeal` computes, in terms of the values its runs leave: the contents of the result windows over
   the grid, and the run that ends with them.
   The text follows the generated certificate; its loop is gone through by the invariant of `Loop`. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 12 = 0) (h1 : ¬t.val % 12 = 11) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 12 = 0) (h1 : ¬t.val % 12 = 11) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 12 = 0) (h1 : t.val % 12 = 11) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1x7168.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 12 = 0) (h1 : ¬t.val % 12 = 11) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 12 = 0) (h1 : ¬t.val % 12 = 11) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 12 = 0) (h1 : t.val % 12 = 11) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed7, outsAt0_C m c t h0 h1]

/-- The index map sends distinct grid points to distinct block indices (decided over the 12 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x384x7168.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 2), read through the window's block. -/
theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 12 = 0) (h1 : ¬t.val % 12 = 11) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 12 = 0) (h1 : ¬t.val % 12 = 11) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 12 = 0) (h1 : t.val % 12 = 11) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2) := by
  simp only [flushed8, outsAt0_C m c t h0 h1]

/-- The index map sends distinct grid points to distinct block indices (decided over the 12 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x384x56.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v1_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 6 cfg0.N
      ∧ r.2.mem ((c : Thread nD τ).loc main_v1_1) = (dats m 0 c).arrAt 7 cfg0.N
      ∧ r.2.mem ((c : Thread nD τ).loc main_v1_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8x7168 .f32) : Vec F S8x7168 .f32 :=
  if h0 : n % 12 = 0 then
    if h1 : n % 12 = 11 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : n % 12 = 11 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `12·(t / 12)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (12 * (t.val / 12)) (t.val % 12)
      (by have h1 := t.isLt; have h2 := Nat.div_add_mod t.val 12; omega) :=
  Pipeline.eq_accAt_of_mod (fun n h => (outsAt0 m c n h).2.2.2) 12 (fun n h => scAt0_0 m c n h (VS0_0.read (Elt F) VS0_0.junk)) (scAt0_0 m c)
    (fun n h hn => by
      have hN := lt_of_lt_of_eq h (show cfg0.N = 12 from N_0)
      by_cases h0 : n % 12 = 0 <;> by_cases h1 : n % 12 = 11
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 12 from N_0)
      by_cases h0 : (n + 1) % 12 = 0 <;> by_cases h1 : (n + 1) % 12 = 11
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 12 from N_0)
  have hd : n / 12 = 0 := Nat.div_eq_of_lt hN
  have hm : n % 12 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x7168 .f32 × Vec F S1x128x7168 .fp8e4m3 × Vec F S1x128x56 .f32 × Vec F S8x7168 .f32 :=
  ((VO0_6.read (Elt F) VO0_6.junk, VO0_7.read (Elt F) VO0_7.junk, VO0_8.read (Elt F) VO0_8.junk, VS0_0.read (Elt F) VS0_0.junk) : Vec F S1x7168 .f32 × Vec F S1x128x7168 .fp8e4m3 × Vec F S1x128x56 .f32 × Vec F S8x7168 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x7168 .f32 × Vec F S1x128x7168 .fp8e4m3 × Vec F S1x128x56 .f32 × Vec F S8x7168 .f32) : Vec F S1x7168 .f32 × Vec F S1x128x7168 .fp8e4m3 × Vec F S1x128x56 .f32 × Vec F S8x7168 .f32 :=
  if h0 : n % 12 = 0 then
    if h1 : n % 12 = 11 then
      False.elim (by have hN : n < 12 := lt_of_lt_of_eq hb (show cfg0.N = 12 from N_0); omega)
    else
      (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    if h1 : n % 12 = 11 then
      (out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2)
    else
      (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2)

/-- `stAt0` at a point of case A: that case's contents. -/
theorem stAt0_A (c : Dev nD) (t : Fin cfg0.N) (acc : Vec F S1x7168 .f32 × Vec F S1x128x7168 .fp8e4m3 × Vec F S1x128x56 .f32 × Vec F S8x7168 .f32) (h0 : t.val % 12 = 0) (h1 : ¬t.val % 12 = 11) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) :=
  (dif_pos h0).trans ((dif_neg h1).trans rfl)

/-- `stAt0` at a point of case B: that case's contents, over `acc`. -/
theorem stAt0_B (c : Dev nD) (t : Fin cfg0.N) (acc : Vec F S1x7168 .f32 × Vec F S1x128x7168 .fp8e4m3 × Vec F S1x128x56 .f32 × Vec F S8x7168 .f32) (h0 : ¬t.val % 12 = 0) (h1 : ¬t.val % 12 = 11) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2.2) :=
  (dif_neg h0).trans ((dif_neg h1).trans rfl)

/-- `stAt0` at a point of case C: that case's contents, over `acc`. -/
theorem stAt0_C (c : Dev nD) (t : Fin cfg0.N) (acc : Vec F S1x7168 .f32 × Vec F S1x128x7168 .fp8e4m3 × Vec F S1x128x56 .f32 × Vec F S8x7168 .f32) (h0 : ¬t.val % 12 = 0) (h1 : t.val % 12 = 11) :
    stAt0 m c t.val t.isLt acc = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 12 from N_0)
  have e := Pipeline.eq_accAt_of_mod (fun n h => outsAt0 m c n h) 12 (fun n h => stAt0 m c n h junk0) (stAt0 m c)
    (fun n h _ => by
      have hN := lt_of_lt_of_eq h (show cfg0.N = 12 from N_0)
      obtain rfl : n = 0 := by omega
      exact outsAt0_zero m c h)
    (fun n h _ => outsAt0_succ m c n h)
    (by decide) n hn (by have := Nat.div_add_mod n 12; omega)
  have hd : n / 12 = 0 := Nat.div_eq_of_lt hN
  have hm : n % 12 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one every 12 points),
    `i`'s place in it, and the point that writes it back (the last of its 12). -/
abbrev run6Of (i : S1x7168.Idx) : ℕ := 1 * ((i 0).val / 1 - 0) + 1 * ((i 1).val / 7168 - 0)
set_option backward.proofsInPublic true in
abbrev loc6Of (i : S1x7168.Idx) : S1x7168.Idx := fun a => match a with
  | ⟨0, _⟩ => ⟨(i 0).val % 1, Nat.mod_lt _ (by decide)⟩
  | ⟨1, _⟩ => ⟨(i 1).val % 7168, Nat.mod_lt _ (by decide)⟩
abbrev pt6Of (i : S1x7168.Idx) : ℕ := 12 * run6Of i + 11

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v1_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t / 12`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 12 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨12 * (1 * q0.val + 1 * q1.val) + 11, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 12 = 11 := (flush0_6 t).mp hf
  obtain ⟨e0, e1, e2⟩ := idx_facts6 t
  funext y
  have hy0 : (y 0).val < 1 := (y 0).isLt
  have hy1 : (y 1).val < 7168 := (y 1).isLt
  have hb0 : (((cfg0.win 6).blk t).view.emb y 0).val = win0_6.index t (0 : Fin 2) * 1 + 1 * (y 0).val := rfl
  have hb1 : (((cfg0.win 6).blk t).view.emb y 1).val = win0_6.index t (1 : Fin 2) * 7168 + 1 * (y 1).val := rfl
  have hr : run6Of (((cfg0.win 6).blk t).view.emb y) = t.val / 12 := by
    show 1 * ((((cfg0.win 6).blk t).view.emb y 0).val / 1 - 0) + 1 * ((((cfg0.win 6).blk t).view.emb y 1).val / 7168 - 0) = _
    rw [hb0, hb1]
    rw [show (win0_6.index t (0 : Fin 2) * 1 + 1 * (y 0).val) / 1 = win0_6.index t (0 : Fin 2) from by omega]; rw [show (win0_6.index t (1 : Fin 2) * 7168 + 1 * (y 1).val) / 7168 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 7168 = (y 1).val; rw [hb1]; omega
  have hp : pt6Of (((cfg0.win 6).blk t).view.emb y) = t.val := by
    show 12 * run6Of (((cfg0.win 6).blk t).view.emb y) + 11 = _
    rw [hr]; have := Nat.div_add_mod t.val 12; omega
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1x7168.Idx) :
    i ∈ ((cfg0.win 6).blk t).view.set ↔ ∀ a : Fin 2, win0_6.index t a * S1x7168.size a ≤ (i a).val ∧ (i a).val < win0_6.index t a * S1x7168.size a + S1x7168.size a := by
  show i ∈ ((View.whole main_v1_0).slice (win0_6.rect t)).set ↔ _
  rw [View.set_slice_whole, Rect.mem_set_unit]
  exact Iff.rfl

/-- THE COVERED INDICES: in some flushing point's block iff inside the box those blocks fill. -/
theorem covered_iff6 (i : S1x7168.Idx) :
    (∃ t : Fin cfg0.N, (cfg0.win 6).flush t = true ∧ i ∈ ((cfg0.win 6).blk t).view.set) ↔ 0 ≤ (i 0).val ∧ (i 0).val < 1 ∧ 0 ≤ (i 1).val ∧ (i 1).val < 7168 := by
  constructor
  · rintro ⟨t, -, hi⟩
    rw [mem_blk6] at hi
    have b0 : win0_6.index t (0 : Fin 2) * 1 ≤ (i 0).val ∧ (i 0).val < win0_6.index t (0 : Fin 2) * 1 + 1 := hi 0
    have b1 : win0_6.index t (1 : Fin 2) * 7168 ≤ (i 1).val ∧ (i 1).val < win0_6.index t (1 : Fin 2) * 7168 + 7168 := hi 1
    obtain ⟨e0, e1, e2⟩ := idx_facts6 t
    omega
  · intro h
    have hi0 : (i 0).val < 1 := (i 0).isLt
    have hi1 : (i 1).val < 7168 := (i 1).isLt
    obtain ⟨t, hft, ht⟩ := idx_onto6 ⟨(i 0).val / 1 - 0, by omega⟩ ⟨(i 1).val / 7168 - 0, by omega⟩
    have q0 : win0_6.index t (0 : Fin 2) = (i 0).val / 1 - 0 + 0 := congrFun ht 0
    have q1 : win0_6.index t (1 : Fin 2) = (i 1).val / 7168 - 0 + 0 := congrFun ht 1
    refine ⟨t, hft, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 7168 ≤ (i 1).val ∧ (i 1).val < win0_6.index t (1 : Fin 2) * 7168 + 7168; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1 := (i 0).isLt; have h1 : (i 1).val < 7168 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 11 (lt_of_lt_of_eq (by decide) N_0.symm)).1 := by
  funext i
  have hi0 : (i 0).val < 1 := (i 0).isLt
  have hi1 : (i 1).val < 7168 := (i 1).isLt
  have hp : pt6Of i = 11 := by
    show 12 * (1 * ((i 0).val / 1 - 0) + 1 * ((i 1).val / 7168 - 0)) + 11 = _
    omega
  have hl : loc6Of i = i := by
    funext a; apply Fin.ext
    match a with
    | ⟨0, _⟩ => show (i 0).val % 1 = (i 0).val; omega
    | ⟨1, _⟩ => show (i 1).val % 7168 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one per point),
    `i`'s place in it, and the point that writes it back. -/
abbrev run7Of (i : S4x384x7168.Idx) : ℕ := 3 * ((i 0).val / 1 - 0) + 1 * ((i 1).val / 128 - 0) + 1 * ((i 2).val / 7168 - 0)
set_option backward.proofsInPublic true in
abbrev loc7Of (i : S4x384x7168.Idx) : S1x128x7168.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 7168, Nat.mod_lt _ (by decide)⟩
abbrev pt7Of (i : S4x384x7168.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v1_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 2
    ∧ 0 ≤ win0_7.index t (2 : Fin 3) ∧ win0_7.index t (2 : Fin 3) ≤ 0
    ∧ 3 * (win0_7.index t (0 : Fin 3) - 0) + 1 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 4) (q1 : Fin 3) (q2 : Fin 1) : Fin grid0.N :=
  ⟨3 * q0.val + 1 * q1.val + 1 * q2.val, lt_of_lt_of_eq (by omega) N_0.symm⟩
theorem idx_onto7 : ∀ (q0 : Fin 4) (q1 : Fin 3) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 4) (q1 : Fin 3) (q2 : Fin 1), win0_7.flush (onto7Pt q0 q1 q2) = true ∧ win0_7.index (onto7Pt q0 q1 q2) = ![q0.val + 0, q1.val + 0, q2.val + 0]) q0 q1 q2⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2, e3⟩ := idx_facts7 t
  funext y
  have hy0 : (y 0).val < 1 := (y 0).isLt
  have hy1 : (y 1).val < 128 := (y 1).isLt
  have hy2 : (y 2).val < 7168 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 128 + 1 * (y 1).val := rfl
  have hb2 : (((cfg0.win 7).blk t).view.emb y 2).val = win0_7.index t (2 : Fin 3) * 7168 + 1 * (y 2).val := rfl
  have hr : run7Of (((cfg0.win 7).blk t).view.emb y) = t.val := by
    show 3 * ((((cfg0.win 7).blk t).view.emb y 0).val / 1 - 0) + 1 * ((((cfg0.win 7).blk t).view.emb y 1).val / 128 - 0) + 1 * ((((cfg0.win 7).blk t).view.emb y 2).val / 7168 - 0) = _
    rw [hb0, hb1, hb2]
    rw [show (win0_7.index t (0 : Fin 3) * 1 + 1 * (y 0).val) / 1 = win0_7.index t (0 : Fin 3) from by omega]; rw [show (win0_7.index t (1 : Fin 3) * 128 + 1 * (y 1).val) / 128 = win0_7.index t (1 : Fin 3) from by omega]; rw [show (win0_7.index t (2 : Fin 3) * 7168 + 1 * (y 2).val) / 7168 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 128 = (y 1).val; rw [hb1]; omega
    | ⟨2, _⟩ => show (((cfg0.win 7).blk t).view.emb y 2).val % 7168 = (y 2).val; rw [hb2]; omega
  have hp : pt7Of (((cfg0.win 7).blk t).view.emb y) = t.val := by
    exact hr
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S4x384x7168.Idx) :
    i ∈ ((cfg0.win 7).blk t).view.set ↔ ∀ a : Fin 3, win0_7.index t a * S1x128x7168.size a ≤ (i a).val ∧ (i a).val < win0_7.index t a * S1x128x7168.size a + S1x128x7168.size a := by
  show i ∈ ((View.whole main_v1_1).slice (win0_7.rect t)).set ↔ _
  rw [View.set_slice_whole, Rect.mem_set_unit]
  exact Iff.rfl

/-- THE COVERED INDICES: in some flushing point's block iff inside the box those blocks fill. -/
theorem covered_iff7 (i : S4x384x7168.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 384 ∧ 0 ≤ (i 2).val ∧ (i 2).val < 7168 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 128 ≤ (i 1).val ∧ (i 1).val < win0_7.index t (1 : Fin 3) * 128 + 128 := hi 1
    have b2 : win0_7.index t (2 : Fin 3) * 7168 ≤ (i 2).val ∧ (i 2).val < win0_7.index t (2 : Fin 3) * 7168 + 7168 := hi 2
    obtain ⟨e0, e1, e2, e3⟩ := idx_facts7 t
    omega
  · intro h
    have hi0 : (i 0).val < 4 := (i 0).isLt
    have hi1 : (i 1).val < 384 := (i 1).isLt
    have hi2 : (i 2).val < 7168 := (i 2).isLt
    obtain ⟨t, hft, ht⟩ := idx_onto7 ⟨(i 0).val / 1 - 0, by omega⟩ ⟨(i 1).val / 128 - 0, by omega⟩ ⟨(i 2).val / 7168 - 0, by omega⟩
    have q0 : win0_7.index t (0 : Fin 3) = (i 0).val / 1 - 0 + 0 := congrFun ht 0
    have q1 : win0_7.index t (1 : Fin 3) = (i 1).val / 128 - 0 + 0 := congrFun ht 1
    have q2 : win0_7.index t (2 : Fin 3) = (i 2).val / 7168 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 128 ≤ (i 1).val ∧ (i 1).val < win0_7.index t (1 : Fin 3) * 128 + 128; omega
    | ⟨2, _⟩ => show win0_7.index t (2 : Fin 3) * 7168 ≤ (i 2).val ∧ (i 2).val < win0_7.index t (2 : Fin 3) * 7168 + 7168; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 384 := (i 1).isLt; have h2 : (i 2).val < 7168 := (i 2).isLt; omega))

/-! ## Output window 8 -/

/-- The block of the array that holds index `i`, numbered in the order the points write the blocks back (one per point),
    `i`'s place in it, and the point that writes it back. -/
abbrev run8Of (i : S4x384x56.Idx) : ℕ := 3 * ((i 0).val / 1 - 0) + 1 * ((i 1).val / 128 - 0) + 1 * ((i 2).val / 56 - 0)
set_option backward.proofsInPublic true in
abbrev loc8Of (i : S4x384x56.Idx) : S1x128x56.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 56, Nat.mod_lt _ (by decide)⟩
abbrev pt8Of (i : S4x384x56.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v1_2) := fun i =>
  if h : pt8Of i < cfg0.N then
    (Pipeline.accAt (fun n h => stAt0 m c n h junk0) (stAt0 m c) 0 (pt8Of i) (by omega)).2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 3
    ∧ 0 ≤ win0_8.index t (1 : Fin 3) ∧ win0_8.index t (1 : Fin 3) ≤ 2
    ∧ 0 ≤ win0_8.index t (2 : Fin 3) ∧ win0_8.index t (2 : Fin 3) ≤ 0
    ∧ 3 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 4) (q1 : Fin 3) (q2 : Fin 1) : Fin grid0.N :=
  ⟨3 * q0.val + 1 * q1.val + 1 * q2.val, lt_of_lt_of_eq (by omega) N_0.symm⟩
theorem idx_onto8 : ∀ (q0 : Fin 4) (q1 : Fin 3) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 4) (q1 : Fin 3) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 128 := (y 1).isLt
  have hy2 : (y 2).val < 56 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 128 + 1 * (y 1).val := rfl
  have hb2 : (((cfg0.win 8).blk t).view.emb y 2).val = win0_8.index t (2 : Fin 3) * 56 + 1 * (y 2).val := rfl
  have hr : run8Of (((cfg0.win 8).blk t).view.emb y) = t.val := by
    show 3 * ((((cfg0.win 8).blk t).view.emb y 0).val / 1 - 0) + 1 * ((((cfg0.win 8).blk t).view.emb y 1).val / 128 - 0) + 1 * ((((cfg0.win 8).blk t).view.emb y 2).val / 56 - 0) = _
    rw [hb0, hb1, hb2]
    rw [show (win0_8.index t (0 : Fin 3) * 1 + 1 * (y 0).val) / 1 = win0_8.index t (0 : Fin 3) from by omega]; rw [show (win0_8.index t (1 : Fin 3) * 128 + 1 * (y 1).val) / 128 = win0_8.index t (1 : Fin 3) from by omega]; rw [show (win0_8.index t (2 : Fin 3) * 56 + 1 * (y 2).val) / 56 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 128 = (y 1).val; rw [hb1]; omega
    | ⟨2, _⟩ => show (((cfg0.win 8).blk t).view.emb y 2).val % 56 = (y 2).val; rw [hb2]; omega
  have hp : pt8Of (((cfg0.win 8).blk t).view.emb y) = t.val := by
    exact hr
  show (Pipeline.accAt (fun n h => stAt0 m c n h junk0) (stAt0 m c) 0 t.val _).2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S4x384x56.Idx) :
    i ∈ ((cfg0.win 8).blk t).view.set ↔ ∀ a : Fin 3, win0_8.index t a * S1x128x56.size a ≤ (i a).val ∧ (i a).val < win0_8.index t a * S1x128x56.size a + S1x128x56.size a := by
  show i ∈ ((View.whole main_v1_2).slice (win0_8.rect t)).set ↔ _
  rw [View.set_slice_whole, Rect.mem_set_unit]
  exact Iff.rfl

/-- THE COVERED INDICES: in some flushing point's block iff inside the box those blocks fill. -/
theorem covered_iff8 (i : S4x384x56.Idx) :
    (∃ t : Fin cfg0.N, (cfg0.win 8).flush t = true ∧ i ∈ ((cfg0.win 8).blk t).view.set) ↔ 0 ≤ (i 0).val ∧ (i 0).val < 4 ∧ 0 ≤ (i 1).val ∧ (i 1).val < 384 ∧ 0 ≤ (i 2).val ∧ (i 2).val < 56 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 128 ≤ (i 1).val ∧ (i 1).val < win0_8.index t (1 : Fin 3) * 128 + 128 := hi 1
    have b2 : win0_8.index t (2 : Fin 3) * 56 ≤ (i 2).val ∧ (i 2).val < win0_8.index t (2 : Fin 3) * 56 + 56 := hi 2
    obtain ⟨e0, e1, e2, e3⟩ := idx_facts8 t
    omega
  · intro h
    have hi0 : (i 0).val < 4 := (i 0).isLt
    have hi1 : (i 1).val < 384 := (i 1).isLt
    have hi2 : (i 2).val < 56 := (i 2).isLt
    obtain ⟨t, hft, ht⟩ := idx_onto8 ⟨(i 0).val / 1 - 0, by omega⟩ ⟨(i 1).val / 128 - 0, by omega⟩ ⟨(i 2).val / 56 - 0, by omega⟩
    have q0 : win0_8.index t (0 : Fin 3) = (i 0).val / 1 - 0 + 0 := congrFun ht 0
    have q1 : win0_8.index t (1 : Fin 3) = (i 1).val / 128 - 0 + 0 := congrFun ht 1
    have q2 : win0_8.index t (2 : Fin 3) = (i 2).val / 56 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 128 ≤ (i 1).val ∧ (i 1).val < win0_8.index t (1 : Fin 3) * 128 + 128; omega
    | ⟨2, _⟩ => show win0_8.index t (2 : Fin 3) * 56 ≤ (i 2).val ∧ (i 2).val < win0_8.index t (2 : Fin 3) * 56 + 56; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 4 := (i 0).isLt; have h1 : (i 1).val < 384 := (i 1).isLt; have h2 : (i 2).val < 56 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1_0) = G6 m c
      ∧ r.2.mem ((c : Thread nD τ).loc main_v1_1) = G7 m c
      ∧ r.2.mem ((c : Thread nD τ).loc main_v1_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.KernelIdeal.Trip.lean ====
/- One trip of the loop, told by column blocks: what it reads, the values it forms for block `j` of the 56 as functions
   of `j`, and the three lists of pieces the trip writes, each one family of pieces indexed by the block. -/
module

public import proofs.«01_k».proof.Proof.KernelIdeal.Loop

@[expose] public section

set_option maxRecDepth 8192
set_option maxHeartbeats 4000000

noncomputable section

namespace Cert.KernelIdeal.Hand

open Idealize.ShloMosaic Idealize.ShloMosaic.TcCoe Idealize.ShloMosaic.Tactic Idealize.SL Idealize.SL.Sem
open Cert.KernelIdeal.Gen

variable {F : FTy → Type} [FloatOps F] [Named F]

/-! ### Where a trip reads and writes -/

/-- The offset of block `j` of a window of codes at trip `k`. -/
def offC : Fin 56 → Fin k0_t1_loop.trips → Fin 3 → Nat := ![k0_off4, k0_off5, k0_off6, k0_off7, k0_off8, k0_off9, k0_off10, k0_off11, k0_off12, k0_off13, k0_off14, k0_off15, k0_off16, k0_off17, k0_off18, k0_off19, k0_off20, k0_off21, k0_off22, k0_off23, k0_off24, k0_off25, k0_off26, k0_off27, k0_off28, k0_off29, k0_off30, k0_off31, k0_off32, k0_off33, k0_off34, k0_off35, k0_off36, k0_off37, k0_off38, k0_off39, k0_off40, k0_off41, k0_off42, k0_off43, k0_off44, k0_off45, k0_off46, k0_off47, k0_off48, k0_off49, k0_off50, k0_off51, k0_off52, k0_off53, k0_off54, k0_off55, k0_off56, k0_off57, k0_off58, k0_off59]
/-- The offset of block `j` of the window of scales at trip `k`. -/
def offS : Fin 56 → Fin k0_t1_loop.trips → Fin 3 → Nat := ![k0_off60, k0_off61, k0_off62, k0_off63, k0_off64, k0_off65, k0_off66, k0_off67, k0_off68, k0_off69, k0_off70, k0_off71, k0_off72, k0_off73, k0_off74, k0_off75, k0_off76, k0_off77, k0_off78, k0_off79, k0_off80, k0_off81, k0_off82, k0_off83, k0_off84, k0_off85, k0_off86, k0_off87, k0_off88, k0_off89, k0_off90, k0_off91, k0_off92, k0_off93, k0_off94, k0_off95, k0_off96, k0_off97, k0_off98, k0_off99, k0_off100, k0_off101, k0_off102, k0_off103, k0_off104, k0_off105, k0_off106, k0_off107, k0_off108, k0_off109, k0_off110, k0_off111, k0_off112, k0_off113, k0_off114, k0_off115]
/-- The offset of block `j` in a row of 7168. -/
def offR (j : Fin 56) : Fin 2 → Nat := ![0, 128 * j.val]

theorem offC_eq (j : Fin 56) (k : Fin k0_t1_loop.trips) : offC j k = ![0, 32 * k.val, 128 * j.val] := by
  fin_cases j
  · exact k0_off4_eq k
  · exact k0_off5_eq k
  · exact k0_off6_eq k
  · exact k0_off7_eq k
  · exact k0_off8_eq k
  · exact k0_off9_eq k
  · exact k0_off10_eq k
  · exact k0_off11_eq k
  · exact k0_off12_eq k
  · exact k0_off13_eq k
  · exact k0_off14_eq k
  · exact k0_off15_eq k
  · exact k0_off16_eq k
  · exact k0_off17_eq k
  · exact k0_off18_eq k
  · exact k0_off19_eq k
  · exact k0_off20_eq k
  · exact k0_off21_eq k
  · exact k0_off22_eq k
  · exact k0_off23_eq k
  · exact k0_off24_eq k
  · exact k0_off25_eq k
  · exact k0_off26_eq k
  · exact k0_off27_eq k
  · exact k0_off28_eq k
  · exact k0_off29_eq k
  · exact k0_off30_eq k
  · exact k0_off31_eq k
  · exact k0_off32_eq k
  · exact k0_off33_eq k
  · exact k0_off34_eq k
  · exact k0_off35_eq k
  · exact k0_off36_eq k
  · exact k0_off37_eq k
  · exact k0_off38_eq k
  · exact k0_off39_eq k
  · exact k0_off40_eq k
  · exact k0_off41_eq k
  · exact k0_off42_eq k
  · exact k0_off43_eq k
  · exact k0_off44_eq k
  · exact k0_off45_eq k
  · exact k0_off46_eq k
  · exact k0_off47_eq k
  · exact k0_off48_eq k
  · exact k0_off49_eq k
  · exact k0_off50_eq k
  · exact k0_off51_eq k
  · exact k0_off52_eq k
  · exact k0_off53_eq k
  · exact k0_off54_eq k
  · exact k0_off55_eq k
  · exact k0_off56_eq k
  · exact k0_off57_eq k
  · exact k0_off58_eq k
  · exact k0_off59_eq k

theorem offS_eq (j : Fin 56) (k : Fin k0_t1_loop.trips) : offS j k = ![0, 32 * k.val, j.val] := by
  fin_cases j
  · exact k0_off60_eq k
  · exact k0_off61_eq k
  · exact k0_off62_eq k
  · exact k0_off63_eq k
  · exact k0_off64_eq k
  · exact k0_off65_eq k
  · exact k0_off66_eq k
  · exact k0_off67_eq k
  · exact k0_off68_eq k
  · exact k0_off69_eq k
  · exact k0_off70_eq k
  · exact k0_off71_eq k
  · exact k0_off72_eq k
  · exact k0_off73_eq k
  · exact k0_off74_eq k
  · exact k0_off75_eq k
  · exact k0_off76_eq k
  · exact k0_off77_eq k
  · exact k0_off78_eq k
  · exact k0_off79_eq k
  · exact k0_off80_eq k
  · exact k0_off81_eq k
  · exact k0_off82_eq k
  · exact k0_off83_eq k
  · exact k0_off84_eq k
  · exact k0_off85_eq k
  · exact k0_off86_eq k
  · exact k0_off87_eq k
  · exact k0_off88_eq k
  · exact k0_off89_eq k
  · exact k0_off90_eq k
  · exact k0_off91_eq k
  · exact k0_off92_eq k
  · exact k0_off93_eq k
  · exact k0_off94_eq k
  · exact k0_off95_eq k
  · exact k0_off96_eq k
  · exact k0_off97_eq k
  · exact k0_off98_eq k
  · exact k0_off99_eq k
  · exact k0_off100_eq k
  · exact k0_off101_eq k
  · exact k0_off102_eq k
  · exact k0_off103_eq k
  · exact k0_off104_eq k
  · exact k0_off105_eq k
  · exact k0_off106_eq k
  · exact k0_off107_eq k
  · exact k0_off108_eq k
  · exact k0_off109_eq k
  · exact k0_off110_eq k
  · exact k0_off111_eq k
  · exact k0_off112_eq k
  · exact k0_off113_eq k
  · exact k0_off114_eq k
  · exact k0_off115_eq k

theorem trips_lt (k : Fin k0_t1_loop.trips) : k.val < 4 := Nat.lt_of_lt_of_le k.isLt k0_t1_abs.2.1

theorem offC_inb (j : Fin 56) (k : Fin k0_t1_loop.trips) : ∀ a, offC j k a + S1x32x128.size a ≤ S1x128x7168.size a := by
  rw [offC_eq]
  have hk := trips_lt k
  have hj := j.isLt
  intro a; fin_cases a <;> simp [S1x32x128, S1x128x7168] <;> omega
theorem offS_inb (j : Fin 56) (k : Fin k0_t1_loop.trips) : ∀ a, offS j k a + S1x32x1.size a ≤ S1x128x56.size a := by
  rw [offS_eq]
  have hk := trips_lt k
  have hj := j.isLt
  intro a; fin_cases a <;> simp [S1x32x1, S1x128x56] <;> omega
theorem offR_inb1 (j : Fin 56) : ∀ a, offR j a + S1x128.size a ≤ S1x7168.size a := by
  have hj := j.isLt
  intro a; fin_cases a <;> simp [S1x128, S1x7168, offR] <;> omega
theorem offR_inb8 (j : Fin 56) : ∀ a, offR j a + S8x128.size a ≤ S8x7168.size a := by
  have hj := j.isLt
  intro a; fin_cases a <;> simp [S8x128, S8x7168, offR] <;> omega
theorem slices_col (j : Fin 56) : S32x56.Slices ![0, j.val] S32x1 := by revert j; decide

/-! ### The values of one trip -/

/-- Scale of `x` times `rstd`. -/
def tSx (r : Vec F S32x1 .f32) (xs : Vec F S1x32x56 .f32) : FVec F S32x56 .f32 :=
  mulf (shapeCast S32x56 xs shapeCasts_S1x32x56_S32x56) (broadcastTo S32x56 r broadcasts_S32x1_S32x56)
/-- Both scales times `rstd`. -/
def tW (r : Vec F S32x1 .f32) (xs ys : Vec F S1x32x56 .f32) : FVec F S32x56 .f32 :=
  mulf (tSx r xs) (shapeCast S32x56 ys shapeCasts_S1x32x56_S32x56)
/-- Column `j` of a 32 by 56 array, spread over a block. -/
def tCol (w : FVec F S32x56 .f32) (j : Fin 56) : FVec F S32x128 .f32 :=
  broadcastTo S32x128 (extractStridedSlice S32x1 ![0, j.val] w (slices_col j)) broadcasts_S32x1_S32x128
def tX (x : Vec F S1x32x128 .fp8e4m3) : FVec F S32x128 .f32 :=
  extf .f32 (shapeCast S32x128 x shapeCasts_S1x32x128_S32x128) bitsLt_fp8e4m3_f32
def tY (y : Vec F S1x32x128 .fp8e5m2) : FVec F S32x128 .f32 :=
  extf .f32 (shapeCast S32x128 y shapeCasts_S1x32x128_S32x128) bitsLt_fp8e5m2_f32
def tG (g : Vec F S1x128 .f32) : FVec F S32x128 .f32 :=
  broadcastTo S32x128 (shapeCast S1x128 g shapeCasts_S1x128_S1x128) broadcasts_S1x128_S32x128
/-- Block `j` of the product of `x`, `dy` and `rstd`. -/
def tP (w : FVec F S32x56 .f32) (j : Fin 56) (x : Vec F S1x32x128 .fp8e4m3) (y : Vec F S1x32x128 .fp8e5m2) : FVec F S32x128 .f32 :=
  mulf (mulf (tX x) (tY y)) (tCol w j)
/-- The running sum over the first `n` blocks. -/
def tC (w : FVec F S32x56 .f32) (x : Fin 56 → Vec F S1x32x128 .fp8e4m3) (y : Fin 56 → Vec F S1x32x128 .fp8e5m2) (g : Fin 56 → Vec F S1x128 .f32) :
    Nat → FVec F S32x128 .f32
  | 0 => broadcast S32x128 (Scalar.ofBits .f32 0x00000000#32 : F .f32)
  | n + 1 => if h : n < 56 then addf (tC w x y g n) (mulf (tP w ⟨n, h⟩ (x ⟨n, h⟩) (y ⟨n, h⟩)) (tG (g ⟨n, h⟩))) else tC w x y g n
/-- The row sums. -/
def tRow (v : FVec F S32x128 .f32) : FVec F S32 .f32 :=
  multiReduction .add [1] S32 v 0x00000000#32 reduces_S32x128_S32 (.inl rfl) rfl
/-- Block `j` of the gradient before it is quantised. -/
def tDx (a b : FVec F S32x56 .f32) (j : Fin 56) (x : Vec F S1x32x128 .fp8e4m3) (y : Vec F S1x32x128 .fp8e5m2) (g : Vec F S1x128 .f32) :
    FVec F S32x128 .f32 :=
  subf (mulf (mulf (tY y) (tG g)) (tCol a j)) (mulf (tX x) (tCol b j))
/-- The block's largest absolute value over 448. -/
def tT (dx : FVec F S32x128 .f32) : FVec F S32x1 .f32 :=
  mulf (shapeCast S32x1 (multiReduction .maximumf [1] S32 (absf dx) 0xFF800000#32 reduces_S32x128_S32 (.inl rfl) rfl) shapeCasts_S32_S32x1)
    (broadcast S32x1 (Scalar.ofBits .f32 0x3B124925#32 : F .f32))
/-- How many of the powers are at most `t`. -/
def tN (t : FVec F S32x1 .f32) : IVec S32 32 :=
  multiReductionI .add [1] S32
    (select (cmpf .olt (broadcastTo S32x247 t broadcasts_S32x1_S32x247)
        (bitcastToFloat .f32 (shli (iota .tc S32x247 32 [1] iota_S32x247_d1_w32) (broadcast S32x247 23#32))))
      (broadcast S32x247 0#32) (broadcast S32x247 1#32)) 0#32 reduces_S32x247_S32 rfl
/-- The exponent of the scale. -/
def tE (t : FVec F S32x1 .f32) : IVec S32x1 32 :=
  select (cmpf .oeq t (broadcast S32x1 (Scalar.ofBits .f32 0x00000000#32 : F .f32))) (broadcast S32x1 0#32)
    (subi (subi (shapeCast S32x1 (tN t) shapeCasts_S32_S32x1) (broadcast S32x1 1#32)) (broadcast S32x1 126#32))
/-- The scale. -/
def tS (e : IVec S32x1 32) : FVec F S32x1 .f32 :=
  bitcastToFloat .f32 (shli (addi e (broadcast S32x1 127#32)) (broadcast S32x1 23#32))
/-- The scale's inverse. -/
def tI (e : IVec S32x1 32) : FVec F S32x1 .f32 :=
  bitcastToFloat .f32 (shli (subi (broadcast S32x1 127#32) e) (broadcast S32x1 23#32))
/-- The codes of a block. -/
def tQ (dx : FVec F S32x128 .f32) (e : IVec S32x1 32) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32)) (mulf dx (broadcastTo S32x128 (tI e) broadcasts_S32x1_S32x128))))
    bitsLt_fp8e4m3_f32

/-! ### The pieces -/

section
variable (𝒱 : Variants) (c : Dev nD) (bd : Option 𝒱.V) (i : grid0.Coords) (arg2 : Memref sig .tc .vmem S1x128x7168 .fp8e4m3) (harg2 : arg2.IsWhole) (arg3 : Memref sig .tc .vmem S1x128x56 .f32) (harg3 : arg3.IsWhole) (arg4 : Memref sig .tc .vmem S1x128x7168 .fp8e5m2) (harg4 : arg4.IsWhole) (arg5 : Memref sig .tc .vmem S1x128x56 .f32) (harg5 : arg5.IsWhole) (arg6 : Memref sig .tc .vmem S1x7168 .f32) (harg6 : arg6.IsWhole) (arg7 : Memref sig .tc .vmem S4x384 .f32) (harg7 : arg7.IsWhole) (arg8 : Memref sig .tc .vmem S1x7168 .f32) (harg8 : arg8.IsWhole) (arg9 : Memref sig .tc .vmem S1x128x7168 .fp8e4m3) (harg9 : arg9.IsWhole) (arg10 : Memref sig .tc .vmem S1x128x56 .f32) (harg10 : arg10.IsWhole) (arg11 : Memref sig .tc .vmem S8x7168 .f32) (harg11 : arg11.IsWhole) (arg12 : Memref sig .tc .vmem S128x128 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty)

/-- What the trip reads. -/
abbrev rX (k : Fin k0_t1_loop.trips) (j : Fin 56) : Vec F S1x32x128 .fp8e4m3 :=
  View.readAt (Elt F) arg2.view (Rect.unit (s := S1x128x7168) (offC j k) S1x32x128.size (offC_inb j k)).toLoadRect X_arg2
abbrev rY (k : Fin k0_t1_loop.trips) (j : Fin 56) : Vec F S1x32x128 .fp8e5m2 :=
  View.readAt (Elt F) arg4.view (Rect.unit (s := S1x128x7168) (offC j k) S1x32x128.size (offC_inb j k)).toLoadRect X_arg4
abbrev rG (j : Fin 56) : Vec F S1x128 .f32 :=
  View.readAt (Elt F) arg6.view (Rect.unit (s := S1x7168) (offR j) S1x128.size (offR_inb1 j)).toLoadRect X_arg6
abbrev rXs (k : Fin k0_t1_loop.trips) : Vec F S1x32x56 .f32 :=
  View.readAt (Elt F) arg3.view (Rect.unit (s := S1x128x56) (k0_off3 k) S1x32x56.size (k0_off3_inb k)).toLoadRect X_arg3
abbrev rYs (k : Fin k0_t1_loop.trips) : Vec F S1x32x56 .f32 :=
  View.readAt (Elt F) arg5.view (Rect.unit (s := S1x128x56) (k0_off3 k) S1x32x56.size (k0_off3_inb k)).toLoadRect X_arg5
abbrev rR (k : Fin k0_t1_loop.trips) : Vec F S32x1 .f32 :=
  View.readAt (Elt F) arg12.view (Rect.unit (s := S128x128) (k0_off2 k) S32x1.size (k0_off2_inb k)).toLoadRect X_arg12
abbrev rA (f_arg11 : BufTy.Contents (Elt F) arg11.view.ty) (j : Fin 56) : Vec F S8x128 .f32 :=
  View.readAt (Elt F) arg11.view (Rect.unit (s := S8x7168) (offR j) S8x128.size (offR_inb8 j)).toLoadRect f_arg11

/-- The trip's factors and values, at what it reads. -/
abbrev bW (k : Fin k0_t1_loop.trips) : FVec F S32x56 .f32 := tW (rR arg12 X_arg12 k) (rXs arg3 X_arg3 k) (rYs arg5 X_arg5 k)
abbrev bP (k : Fin k0_t1_loop.trips) (j : Fin 56) : FVec F S32x128 .f32 :=
  tP (bW arg3 arg5 arg12 X_arg3 X_arg5 X_arg12 k) j (rX arg2 X_arg2 k j) (rY arg4 X_arg4 k j)
abbrev bRow (k : Fin k0_t1_loop.trips) : FVec F S32 .f32 :=
  tRow (tC (bW arg3 arg5 arg12 X_arg3 X_arg5 X_arg12 k) (rX arg2 X_arg2 k) (rY arg4 X_arg4 k) (rG arg6 X_arg6) 56)
abbrev bDx (row : FVec F S32 .f32) (k : Fin k0_t1_loop.trips) (j : Fin 56) : FVec F S32x128 .f32 :=
  tDx (k0_pay178 (rR arg12 X_arg12 k) (shapeCast S32x56 (rYs arg5 X_arg5 k) shapeCasts_S1x32x56_S32x56))
    (k0_pay179 (rR arg12 X_arg12 k) (tSx (rR arg12 X_arg12 k) (rXs arg3 X_arg3 k)) row)
    j (rX arg2 X_arg2 k j) (rY arg4 X_arg4 k j) (rG arg6 X_arg6 j)

/-- The pieces of the codes, the scales and the accumulator. -/
def pieceC (row : FVec F S32 .f32) (k : Fin k0_t1_loop.trips) (j : Fin 56) : View.Piece (Elt F) S1x128x7168 .fp8e4m3 :=
  ⟨Rect.unit (s := S1x128x7168) (offC j k) S1x32x128.size (offC_inb j k),
    shapeCast S1x32x128 (tQ (bDx arg2 arg3 arg4 arg5 arg6 arg12 X_arg2 X_arg3 X_arg4 X_arg5 X_arg6 X_arg12 row k j)
      (tE (tT (bDx arg2 arg3 arg4 arg5 arg6 arg12 X_arg2 X_arg3 X_arg4 X_arg5 X_arg6 X_arg12 row k j)))) shapeCasts_S32x128_S1x32x128⟩
def pieceS (row : FVec F S32 .f32) (k : Fin k0_t1_loop.trips) (j : Fin 56) : View.Piece (Elt F) S1x128x56 .f32 :=
  ⟨Rect.unit (s := S1x128x56) (offS j k) S1x32x1.size (offS_inb j k),
    shapeCast S1x32x1 (tS (tE (tT (bDx arg2 arg3 arg4 arg5 arg6 arg12 X_arg2 X_arg3 X_arg4 X_arg5 X_arg6 X_arg12 row k j))))
      shapeCasts_S32x1_S1x32x1⟩
def pieceA (k : Fin k0_t1_loop.trips) (f_arg11 : BufTy.Contents (Elt F) arg11.view.ty) (j : Fin 56) : View.Piece (Elt F) S8x7168 .f32 :=
  ⟨Rect.unit (s := S8x7168) (offR j) S8x128.size (offR_inb8 j),
    shapeCast S8x128 (addf (rA arg11 f_arg11 j)
      (multiReduction .add [0] S8x128 (shapeCast S4x8x128 (bP arg2 arg3 arg4 arg5 arg12 X_arg2 X_arg3 X_arg4 X_arg5 X_arg12 k j) shapeCasts_S32x128_S4x8x128)
        0x00000000#32 reduces_S4x8x128_S8x128 (.inl rfl) rfl)) shapeCasts_S8x128_S8x128⟩

/-- The blocks, last first. -/
def blocks : List (Fin 56) := [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

theorem mem_blocks (j : Fin 56) : j ∈ blocks := by revert j; decide

theorem trip_acc_pieces (k : Fin k0_t1_loop.trips) (f_arg9 : BufTy.Contents (Elt F) arg9.view.ty) (f_arg10 : BufTy.Contents (Elt F) arg10.view.ty)
    (f_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.2.1 f_arg9 f_arg10 f_arg11
      = blocks.map (pieceA arg2 arg3 arg4 arg5 arg11 arg12 X_arg2 X_arg3 X_arg4 X_arg5 X_arg12 k f_arg11) := by
  sl_kernel_rfl

theorem row_eq (k : Fin k0_t1_loop.trips) :
    trip_k0_t1.sl.v1386 arg2 arg3 arg4 arg5 arg6 arg12 X_arg2 X_arg3 X_arg4 X_arg5 X_arg6 X_arg12 k
      = bRow arg2 arg3 arg4 arg5 arg6 arg12 X_arg2 X_arg3 X_arg4 X_arg5 X_arg6 X_arg12 k := by
  sl_kernel_rfl

theorem trip_out_pieces (k : Fin k0_t1_loop.trips) (f_arg9 : BufTy.Contents (Elt F) arg9.view.ty) (f_arg10 : BufTy.Contents (Elt F) arg10.view.ty)
    (f_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).1 f_arg9 f_arg10 f_arg11
      = blocks.map (pieceC arg2 arg3 arg4 arg5 arg6 arg12 X_arg2 X_arg3 X_arg4 X_arg5 X_arg6 X_arg12
          (trip_k0_t1.sl.v1386 arg2 arg3 arg4 arg5 arg6 arg12 X_arg2 X_arg3 X_arg4 X_arg5 X_arg6 X_arg12 k) k) := by
  sl_kernel_rfl

theorem trip_scale_pieces (k : Fin k0_t1_loop.trips) (f_arg9 : BufTy.Contents (Elt F) arg9.view.ty) (f_arg10 : BufTy.Contents (Elt F) arg10.view.ty)
    (f_arg11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg12 k).2.1 f_arg9 f_arg10 f_arg11
      = blocks.map (pieceS arg2 arg3 arg4 arg5 arg6 arg12 X_arg2 X_arg3 X_arg4 X_arg5 X_arg6 X_arg12
          (trip_k0_t1.sl.v1386 arg2 arg3 arg4 arg5 arg6 arg12 X_arg2 X_arg3 X_arg4 X_arg5 X_arg6 X_arg12 k) k) := by
  sl_kernel_rfl

end

end Cert.KernelIdeal.Hand

end
-- ==== Proof.Math.Spec.lean ====
/- The two programs' arithmetic at one row, over the extended reals, as functions of the row: block `j` of 56, lane `l`
   of 128. `r…` is how the reference computes it, `k…` how the kernel does. -/
module

public import Idealize.ShloMosaic.PureOps.Ideal
public import Idealize.ShloMosaic.PureOps.Ideal.Laws

@[expose] public section

noncomputable section

namespace Cert.Math

open Idealize.ShloMosaic

/-- The single-precision number nearest to 1/448. -/
def c448 : EReal := Ideal.ofBits .f32 0x3B124925#32
/-- 448 and its negative, the largest and least code. -/
def hi448 : EReal := Ideal.ofBits .f32 0x43E00000#32
def lo448 : EReal := Ideal.ofBits .f32 0xC3E00000#32

/-- The largest absolute value of a block. -/
def amax (v : Fin 128 → EReal) : EReal := (Finset.univ : Finset (Fin 128)).fold max ⊥ (fun l => max (v l) (-v l))

/-! ### The scale -/

/-- The `k`-th power the kernel compares with. -/
def thr (k : Nat) : EReal := Ideal.ofBits .f32 (IntOp.shli .vector (BitVec.ofNat 32 k) 23#32)
def kCount (t : EReal) : BitVec 32 :=
  (Finset.univ : Finset (Fin 247)).fold IntOp.addi (0#32) (fun k => if t < thr k.val then 0#32 else 1#32)
def kExp (t : EReal) : BitVec 32 := if t = 0 then 0#32 else IntOp.subi (IntOp.subi (kCount t) 1#32) 126#32
def kScale (e : BitVec 32) : EReal := Ideal.ofBits .f32 (IntOp.shli .vector (IntOp.addi e 127#32) 23#32)
def kInv (e : BitVec 32) : EReal := Ideal.ofBits .f32 (IntOp.shli .vector (IntOp.subi 127#32 e) 23#32)

def rExp (a : EReal) : EReal :=
  if a = 0 then 0 else
    min (Ideal.ofBits .f32 0x42F00000#32) (max (Ideal.ofBits .f32 0xC2FC0000#32)
      (Ideal.liftRound Int.floor (Ideal.div (Ideal.log (a * c448)) ((Real.log 2 : ℝ) : EReal)) + 1))

def kCode (v a : EReal) : EReal := min hi448 (max lo448 (v * kInv (kExp (a * c448))))
def rCode (v a : EReal) : EReal := min hi448 (max lo448 (v * Ideal.exp2 (0 - rExp a)))

/-! ### One row -/

section
variable (X Y : Fin 56 → Fin 128 → EReal) (sx sy : Fin 56 → EReal) (g : Fin 56 → Fin 128 → EReal) (r : EReal)

def kP (j : Fin 56) (l : Fin 128) : EReal := (X j l * Y j l) * ((sx j * r) * sy j)
def kRow : EReal := ∑ l, ∑ j, kP X Y sx sy r j l * g j l
def kDx (j : Fin 56) (l : Fin 128) : EReal :=
  (Y j l * g j l) * (sy j * r) - X j l * ((sx j * r) * (r * (kRow X Y sx sy g r * ((1 / 7168 : ℝ) : EReal))))

def rG (j : Fin 56) (l : Fin 128) : EReal := (Y j l * sy j) * g j l
def rXhat (j : Fin 56) (l : Fin 128) : EReal := (X j l * sx j) * r
def rP (j : Fin 56) (l : Fin 128) : EReal := (Y j l * sy j) * rXhat X sx r j l
def rRow : EReal := ∑ j, ∑ l, rG Y sy g j l * rXhat X sx r j l
def rDx (j : Fin 56) (l : Fin 128) : EReal :=
  r * (rG Y sy g j l - rXhat X sx r j l * Ideal.div (rRow X Y sx sy g r) (Ideal.ofBits .f32 0x45E00000#32))
end

end Cert.Math

end
-- ==== Proof.Math.Scale.lean ====
/- The kernel counts the powers of two that are at most `t`; the reference takes the floor of the logarithm. Both give the
   same exponent, clipped to [-126, 120], and the same scale and inverse scale. -/
module

public import proofs.«01_k».proof.Proof.Math.Spec
public import Idealize.ShloMosaic.Lib.IndicatorCount

@[expose] public section

noncomputable section

namespace Cert.Math

open Idealize.ShloMosaic

/-! ### Constants -/

theorem lit120 : Ideal.ofBits .f32 0x42F00000#32 = ((120 : ℝ) : EReal) := by
  simp [Ideal.ofBits, Ideal.ieee, -EReal.coe_mul]; norm_num
theorem litm126 : Ideal.ofBits .f32 0xC2FC0000#32 = ((-126 : ℝ) : EReal) := by
  simp [Ideal.ofBits, Ideal.ieee, -EReal.coe_mul]; norm_num
theorem lit7168 : Ideal.ofBits .f32 0x45E00000#32 = ((7168 : ℝ) : EReal) := by
  simp [Ideal.ofBits, Ideal.ieee, -EReal.coe_mul]; norm_num
theorem c448_eq : ∃ c : ℝ, 0 < c ∧ c448 = (c : EReal) := by
  refine ⟨_, ?_, by simp [c448, Ideal.ofBits, Ideal.ieee, -EReal.coe_mul]; rfl⟩
  norm_num
theorem lit_ninf : Ideal.ofBits .f32 0xFF800000#32 = (⊥ : EReal) := by
  simp [Ideal.ofBits, Ideal.ieee, -EReal.coe_mul]

theorem shl_ex : ∀ k : Fin 255, ((BitVec.ofNat 32 k.val <<< 23).extractLsb' 23 8).toNat = k.val := by decide +kernel
theorem shl_fr : ∀ k : Fin 255, ((BitVec.ofNat 32 k.val <<< 23).extractLsb' 0 23).toNat = 0 := by decide +kernel
theorem shl_sg : ∀ k : Fin 255, ((BitVec.ofNat 32 k.val <<< 23).extractLsb' 31 1 == 1#1) = false := by decide +kernel

theorem ieee_pow (b : BitVec 32) (k : Nat) (h1 : 1 ≤ k) (h2 : k ≤ 254) (e1 : (b.extractLsb' 23 8).toNat = k)
    (e2 : (b.extractLsb' 0 23).toNat = 0) (e3 : (b.extractLsb' 31 1 == 1#1) = false) :
    Ideal.ieee 8 23 b = (((2 : ℝ) ^ ((k : ℤ) - 127) : ℝ) : EReal) := by
  have n1 : k ≠ 255 := by omega
  have n2 : k ≠ 0 := by omega
  have h' : (8388608 : ℝ) * 2 ^ ((k : ℤ) - 127 - 23) = 2 ^ ((k : ℤ) - 127) := by
    rw [show (8388608 : ℝ) = (2 : ℝ) ^ ((23 : ℤ)) by norm_num, ← zpow_add₀ (by norm_num)]
    congr 1; ring
  simp only [Ideal.ieee, Nat.reduceAdd, e1, e2, e3, Nat.reducePow, Nat.reduceSub, n1, n2, if_false, Bool.false_eq_true, add_zero, one_mul, Int.reducePow, Int.reduceSub]
  congr 1

/-- A word that is an exponent field alone is a power of two. -/
theorem pow_bits (k : Nat) (h1 : 1 ≤ k) (h2 : k ≤ 254) :
    Ideal.ofBits .f32 (BitVec.ofNat 32 k <<< 23) = (((2 : ℝ) ^ ((k : ℤ) - 127) : ℝ) : EReal) :=
  ieee_pow _ k h1 h2 (shl_ex ⟨k, by omega⟩) (shl_fr ⟨k, by omega⟩) (shl_sg ⟨k, by omega⟩)

theorem shli_eq (x : BitVec 32) : IntOp.shli .vector x 23#32 = x <<< 23 := rfl

theorem thr_zero : thr 0 = 0 := by
  simp [thr, shli_eq, Ideal.ofBits, Ideal.ieee, -EReal.coe_mul]
theorem thr_pos (k : Nat) (h1 : 1 ≤ k) (h2 : k ≤ 254) : thr k = (((2 : ℝ) ^ ((k : ℤ) - 127) : ℝ) : EReal) := by
  rw [thr, shli_eq, pow_bits k h1 h2]

/-! ### The count -/

theorem kCount_eq (t : EReal) : kCount t = BitVec.ofNat 32 ((Finset.univ : Finset (Fin 247)).filter fun k => ¬ t < thr k.val).card := by
  have h := IndicatorCount.fold_addi_setWidth_eq_card (w := 32) (fun k : Fin 247 => if t < thr k.val then 0#1 else 1#1) Finset.univ
  have e : (fun k : Fin 247 => (if t < thr k.val then 0#1 else 1#1 : BitVec 1).setWidth 32)
      = fun k : Fin 247 => if t < thr k.val then 0#32 else 1#32 := by
    funext k; split <;> rfl
  rw [e] at h
  unfold kCount
  rw [h]
  congr 2
  ext k
  simp only [Finset.mem_filter, Finset.mem_univ, true_and]
  split <;> simp_all

theorem card_lt (M : Nat) (h : M ≤ 247) : ((Finset.univ : Finset (Fin 247)).filter fun k => k.val < M).card = M := by
  rw [Fin.card_filter_val_lt]; omega

/-- When the powers at most `t` are the first `M`, the count is `M`. -/
theorem kCount_of (t : EReal) (M : Nat) (h : M ≤ 247) (hM : ∀ k : Fin 247, t < thr k.val ↔ ¬ k.val < M) :
    kCount t = BitVec.ofNat 32 M := by
  rw [kCount_eq]
  congr 1
  rw [← card_lt M h]
  congr 1
  ext k
  simp only [Finset.mem_filter, Finset.mem_univ, true_and]
  rw [hM k]; simp

theorem scale_bits : ∀ M : Fin 248, ((BitVec.ofNat 32 M.val - 1#32 - 126#32) + 127#32) = BitVec.ofNat 32 M.val := by decide +kernel
theorem inv_bits : ∀ M : Fin 248, (127#32 - (BitVec.ofNat 32 M.val - 1#32 - 126#32)) = BitVec.ofNat 32 (254 - M.val) := by decide +kernel

theorem exp2_int (z : ℤ) : Ideal.exp2 (((z : ℝ) : EReal)) = (((2 : ℝ) ^ z : ℝ) : EReal) := by
  rw [Ideal.exp2_coe]; congr 1; exact Real.rpow_intCast 2 z

/-- The scale and inverse scale from the number `M` of powers. -/
theorem scale_of (t a : EReal) (ht : t ≠ 0) (M : Nat) (h1 : 1 ≤ M) (h2 : M ≤ 247) (hk : kCount t = BitVec.ofNat 32 M)
    (hr : rExp a = ((((M : ℤ) - 127 : ℤ) : ℝ) : EReal)) :
    kScale (kExp t) = Ideal.exp2 (rExp a) ∧ kInv (kExp t) = Ideal.exp2 (0 - rExp a) := by
  have hE : kExp t = BitVec.ofNat 32 M - 1#32 - 126#32 := by
    rw [kExp, if_neg ht, hk]; rfl
  constructor
  · rw [hr, exp2_int, kScale, shli_eq, hE]
    show Ideal.ofBits .f32 ((_ + 127#32) <<< 23) = _
    rw [scale_bits ⟨M, by omega⟩, pow_bits M h1 (by omega)]
  · have e : (0 : EReal) - ((((M : ℤ) - 127 : ℤ) : ℝ) : EReal) = ((((127 : ℤ) - M : ℤ) : ℝ) : EReal) := by
      rw [← EReal.coe_zero, ← EReal.coe_sub]; congr 1; push_cast; ring
    rw [hr, e, exp2_int, kInv, shli_eq, hE]
    show Ideal.ofBits .f32 ((127#32 - _) <<< 23) = _
    rw [inv_bits ⟨M, by omega⟩, pow_bits (254 - M) (by omega) (by omega)]
    congr 2
    have : ((254 - M : ℕ) : ℤ) = 254 - M := by omega
    rw [this]; ring

theorem kExp_zero : kScale (kExp 0) = 1 ∧ kInv (kExp 0) = 1 := by
  have h : Ideal.ofBits .f32 (BitVec.ofNat 32 127 <<< 23) = 1 := by
    rw [pow_bits 127 (by norm_num) (by norm_num)]; norm_num
  rw [kExp, if_pos rfl]
  exact ⟨h, h⟩

/-- A power of two is at most a positive real exactly when its exponent is at most the floor of the logarithm. -/
theorem pow_le_iff (x : ℝ) (hx : 0 < x) (z : ℤ) : (2 : ℝ) ^ z ≤ x ↔ z ≤ ⌊Real.log x / Real.log 2⌋ := by
  have h2 : (0 : ℝ) < Real.log 2 := Real.log_pos (by norm_num)
  rw [Int.le_floor, le_div_iff₀ h2, ← Real.log_zpow, Real.log_le_log_iff (zpow_pos (by norm_num) z) hx]

theorem log_of_pos (x : ℝ) (hx : 0 < x) : Ideal.log (x : EReal) = ((Real.log x : ℝ) : EReal) := if_neg (not_le.mpr hx)

theorem scale_eq (a : EReal) (ha : 0 ≤ a) :
    kScale (kExp (a * c448)) = Ideal.exp2 (rExp a) ∧ kInv (kExp (a * c448)) = Ideal.exp2 (0 - rExp a) := by
  obtain ⟨c, hc, hc'⟩ := c448_eq
  have h2 : (0 : ℝ) < Real.log 2 := Real.log_pos (by norm_num)
  have hl2 : ((Real.log 2 : ℝ) : EReal) ≠ 0 := by exact_mod_cast h2.ne'
  induction a with
  | bot => simp at ha
  | top =>
    have ht : (⊤ : EReal) * c448 = ⊤ := by rw [hc']; exact EReal.top_mul_coe_of_pos hc
    rw [ht]
    refine scale_of ⊤ ⊤ (by simp) 247 (by norm_num) (by norm_num) (kCount_of _ _ le_rfl ?_) ?_
    · intro k; have := k.isLt; simp [not_top_lt]
    · rw [rExp, if_neg (by simp), ht, Ideal.log_top, Ideal.div, if_neg hl2, ← EReal.coe_inv,
        EReal.top_mul_coe_of_pos (inv_pos.mpr h2), Ideal.liftRound_top, EReal.top_add_of_ne_bot (by decide), max_top_right, lit120]
      rw [min_top_right]; norm_num
  | coe x =>
    have hx : 0 ≤ x := by exact_mod_cast ha
    rcases hx.eq_or_lt with rfl | hx
    · have h0 : ((0 : ℝ) : EReal) * c448 = 0 := by simp
      rw [h0]
      have hr : rExp ((0 : ℝ) : EReal) = ((0 : ℝ) : EReal) := by rw [rExp, if_pos (by simp)]; simp
      rw [hr, kExp_zero.1, kExp_zero.2]
      constructor
      · rw [Ideal.exp2_coe]; simp
      · rw [← EReal.coe_zero, ← EReal.coe_sub, Ideal.exp2_coe]; simp
    · have ht : ((x : ℝ) : EReal) * c448 = ((x * c : ℝ) : EReal) := by rw [hc', EReal.coe_mul]
      have hxc : 0 < x * c := mul_pos hx hc
      set f := ⌊Real.log (x * c) / Real.log 2⌋ with hf
      have hM : ∃ M : ℕ, 1 ≤ M ∧ M ≤ 247 ∧ (M : ℤ) = min 247 (max 1 (f + 128)) :=
        ⟨(min 247 (max 1 (f + 128))).toNat, by omega, by omega, by omega⟩
      obtain ⟨M, hM1, hM2, hM3⟩ := hM
      rw [ht]
      refine scale_of _ _ (by exact_mod_cast hxc.ne') M hM1 hM2 (kCount_of _ _ hM2 ?_) ?_
      · intro k
        rcases Nat.eq_zero_or_pos k.val with hk | hk
        · rw [hk, thr_zero]
          simp only [hM1, not_lt]
          constructor
          · intro h; exact absurd h (not_lt.mpr (by exact_mod_cast hxc.le))
          · intro h; omega
        · rw [thr_pos k.val hk (by have := k.isLt; omega), EReal.coe_lt_coe_iff, ← not_le, pow_le_iff _ hxc, ← hf]
          have := k.isLt
          omega
      · rw [rExp, if_neg (by exact_mod_cast hx.ne'), ht, log_of_pos _ hxc, Ideal.div, if_neg hl2,
          ← EReal.coe_inv, ← EReal.coe_mul, ← div_eq_mul_inv, Ideal.liftRound_coe, ← hf, lit120, litm126]
        have e : (((f : ℤ) : ℝ) : EReal) + 1 = (((f + 1 : ℤ) : ℝ) : EReal) := by push_cast; rfl
        rw [e, ← EReal.coe_strictMono.monotone.map_max, ← EReal.coe_strictMono.monotone.map_min]
        congr 1
        have : ((M : ℤ) - 127 : ℤ) = min 120 (max (-126) (f + 1)) := by omega
        rw [this]; push_cast; rfl

theorem code_eq (v a : EReal) (ha : 0 ≤ a) : kCode v a = rCode v a := by
  rw [kCode, rCode, (scale_eq a ha).2]

theorem le_fold_max {ι : Type} (s : Finset ι) (f : ι → EReal) (i : ι) (hi : i ∈ s) : f i ≤ s.fold max ⊥ f :=
  (Finset.le_fold_max _).mpr (Or.inr ⟨i, hi, le_rfl⟩)

theorem amax_nonneg (v : Fin 128 → EReal) : 0 ≤ amax v := by
  refine le_trans ?_ (le_fold_max Finset.univ _ (0 : Fin 128) (Finset.mem_univ _))
  rcases le_total 0 (v 0) with h | h
  · exact le_max_of_le_left h
  · exact le_max_of_le_right (EReal.neg_nonneg.mpr h)

end Cert.Math

end
-- ==== Proof.KernelIdeal.Elem.lean ====
/- The values of one trip, read at an index over the extended reals. -/
module

public import proofs.«01_k».proof.Proof.KernelIdeal.Trip
public import Idealize.ShloMosaic.Lib.Pointwise
public import Idealize.ShloMosaic.Lib.IdealHost
public import proofs.«01_k».proof.Proof.Math.Scale

@[expose] public section

set_option maxRecDepth 8192
set_option maxHeartbeats 4000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.Math

theorem tW_apply (r : Vec Ideal S32x1 .f32) (xs ys : Vec Ideal S1x32x56 .f32) (i : Fin 32) (j : Fin 56) :
    tW r xs ys (ix2 i j) = ((xs (ix3 0 i j) * r (ix2 i 0)) * ys (ix3 0 i j) : EReal) := by
  pointwise [tW, tSx]

theorem tP_apply (w : FVec Ideal S32x56 .f32) (j : Fin 56) (x : Vec Ideal S1x32x128 .fp8e4m3) (y : Vec Ideal S1x32x128 .fp8e5m2)
    (i : Fin 32) (l : Fin 128) :
    tP w j x y (ix2 i l) = ((x (ix3 0 i l) * y (ix3 0 i l)) * w (ix2 i j) : EReal) := by
  pointwise [tP, tX, tY, tCol]

theorem tG_apply (g : Vec Ideal S1x128 .f32) (i : Fin 32) (l : Fin 128) : tG g (ix2 i l) = g (ix2 0 l) := by
  pointwise [tG]

theorem tC_apply (w : FVec Ideal S32x56 .f32) (x : Fin 56 → Vec Ideal S1x32x128 .fp8e4m3) (y : Fin 56 → Vec Ideal S1x32x128 .fp8e5m2)
    (g : Fin 56 → Vec Ideal S1x128 .f32) (i : Fin 32) (l : Fin 128) :
    tC w x y g 56 (ix2 i l)
      = (∑ j : Fin 56, ((x j (ix3 0 i l) * y j (ix3 0 i l)) * w (ix2 i j)) * g j (ix2 0 l) : EReal) := by
  have key : ∀ n (hn : n ≤ 56), tC w x y g n (ix2 i l)
      = (∑ j : Fin n, ((x (Fin.castLE hn j) (ix3 0 i l) * y (Fin.castLE hn j) (ix3 0 i l)) * w (ix2 i (Fin.castLE hn j))) * g (Fin.castLE hn j) (ix2 0 l) : EReal) := by
    intro n
    induction n with
    | zero => intro hn; simp only [tC]; pointwise; simp
    | succ n ih =>
      intro hn
      rw [tC, dif_pos (by omega : n < 56), Fin.sum_univ_castSucc]
      have h := ih (by omega)
      have e : (Fin.castLE hn (Fin.last n)) = ⟨n, by omega⟩ := rfl
      rw [e]
      show (_ : EReal) + (_ * _ : EReal) = _
      rw [h, tP_apply, tG_apply]
      rfl
  exact key 56 le_rfl

theorem tRow_apply (v : FVec Ideal S32x128 .f32) (i : Fin 32) : tRow v (ix1 i) = (∑ l : Fin 128, v (ix2 i l) : EReal) := by
  pointwise [tRow]

theorem pay178_apply (r : Vec Ideal S32x1 .f32) (ys : FVec Ideal S32x56 .f32) (i : Fin 32) (j : Fin 56) :
    k0_pay178 r ys (ix2 i j) = (ys (ix2 i j) * r (ix2 i 0) : EReal) := by
  pointwise [k0_pay178]

theorem inv_d_eq : (Named.named (F := Ideal) κ "inv_d" (φ := .f32) 0x39124925#32 : EReal) = ((1 / 7168 : ℝ) : EReal) :=
  IdealRules.named_const.ideal_named_scalar _ _ _ _ rfl

theorem pay179_apply (r : Vec Ideal S32x1 .f32) (sx : FVec Ideal S32x56 .f32) (row : FVec Ideal S32 .f32) (i : Fin 32) (j : Fin 56) :
    k0_pay179 r sx row (ix2 i j) = (sx (ix2 i j) * (r (ix2 i 0) * (row (ix1 i) * ((1 / 7168 : ℝ) : EReal))) : EReal) := by
  rw [← inv_d_eq]
  pointwise [k0_pay179]

theorem tSx_apply (r : Vec Ideal S32x1 .f32) (xs : Vec Ideal S1x32x56 .f32) (i : Fin 32) (j : Fin 56) :
    tSx r xs (ix2 i j) = (xs (ix3 0 i j) * r (ix2 i 0) : EReal) := by
  pointwise [tSx]

theorem tDx_apply (a b : FVec Ideal S32x56 .f32) (j : Fin 56) (x : Vec Ideal S1x32x128 .fp8e4m3) (y : Vec Ideal S1x32x128 .fp8e5m2)
    (g : Vec Ideal S1x128 .f32) (i : Fin 32) (l : Fin 128) :
    tDx a b j x y g (ix2 i l)
      = ((y (ix3 0 i l) * g (ix2 0 l)) * a (ix2 i j) - x (ix3 0 i l) * b (ix2 i j) : EReal) := by
  pointwise [tDx, tX, tY, tG, tCol]

theorem tT_apply (dx : FVec Ideal S32x128 .f32) (i : Fin 32) :
    tT dx (ix2 i 0) = amax (fun l => dx (ix2 i l)) * c448 := by
  unfold amax c448
  rw [← lit_ninf]
  pointwise [tT]
  rfl

theorem tN_apply (t : FVec Ideal S32x1 .f32) (i : Fin 32) : tN t (ix1 i) = kCount (t (ix2 i 0)) := by
  unfold kCount thr
  pointwise [tN]

theorem tE_apply (t : FVec Ideal S32x1 .f32) (i : Fin 32) : tE t (ix2 i 0) = kExp (t (ix2 i 0)) := by
  unfold kExp
  rw [← tN_apply t i]
  pointwise [tE]

theorem tS_apply (e : IVec S32x1 32) (i : Fin 32) :
    (tS e : FVec Ideal S32x1 .f32) (ix2 i 0) = kScale (e (ix2 i 0)) := by
  unfold kScale
  pointwise [tS]

theorem tQ_apply (dx : FVec Ideal S32x128 .f32) (e : IVec S32x1 32) (i : Fin 32) (l : Fin 128) :
    tQ dx e (ix2 i l) = (min hi448 (max lo448 (dx (ix2 i l) * kInv (e (ix2 i 0)))) : EReal) := by
  unfold hi448 lo448 kInv
  pointwise [tQ, tI]

theorem acc_apply (f : Vec Ideal S8x128 .f32) (p : FVec Ideal S32x128 .f32) (a : Fin 8) (l : Fin 128) :
    (shapeCast S8x128 (addf f
      (multiReduction .add [0] S8x128 (shapeCast S4x8x128 p shapeCasts_S32x128_S4x8x128)
        0x00000000#32 reduces_S4x8x128_S8x128 (.inl rfl) rfl)) shapeCasts_S8x128_S8x128 : FVec Ideal S8x128 .f32) (ix2 a l)
      = (f (ix2 a l) + ∑ q : Fin 4, p (ix2 ⟨q.val * 8 + a.val, by omega⟩ l) : EReal) := by
  pointwise

end Cert.KernelIdeal.Elem

end
-- ==== Proof.KernelIdeal.Reads.lean ====
/- One trip over the extended reals: row `i` of trip `k` is row `32 k + i` of the grid point's block, and what the trip
   forms there is the row's arithmetic of `Math.Spec`. -/
module

public import proofs.«01_k».proof.Proof.KernelIdeal.Elem
public import Idealize.ShloMosaic.Lib.Pipeline.ValueKit.Tiles

@[expose] public section

set_option maxRecDepth 8192
set_option maxHeartbeats 1000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.Math

/-- Lane `l` of block `j`, the block of a column, and its lane. -/
abbrev col (j : Fin 56) (l : Fin 128) : Fin 7168 := ⟨j.val * 128 + l.val, by omega⟩
abbrev blk (d : Fin 7168) : Fin 56 := ⟨d.val / 128, by omega⟩
abbrev lane (d : Fin 7168) : Fin 128 := ⟨d.val % 128, by omega⟩
/-- Row `i` of trip `k`. -/
abbrev rowOf (k : Fin k0_t1_loop.trips) (i : Fin 32) : Fin 128 := ⟨32 * k.val + i.val, by have := trips_lt k; omega⟩

theorem col_blk (d : Fin 7168) : col (blk d) (lane d) = d := Fin.ext (by
  show d.val / 128 * 128 + d.val % 128 = d.val
  omega)

section
variable (x0 : Vec Ideal S1x128x7168 .fp8e4m3) (x1 : Vec Ideal S1x128x56 .f32) (x2 : Vec Ideal S1x128x7168 .fp8e5m2)
  (x3 : Vec Ideal S1x128x56 .f32) (x4 : Vec Ideal S1x7168 .f32) (r : Fin 128 → EReal)

/-- The rows of the blocks. -/
abbrev bx (ρ : Fin 128) (j : Fin 56) (l : Fin 128) : EReal := x0 (ix3 0 ρ (col j l))
abbrev by' (ρ : Fin 128) (j : Fin 56) (l : Fin 128) : EReal := x2 (ix3 0 ρ (col j l))
abbrev bs (ρ : Fin 128) (j : Fin 56) : EReal := x1 (ix3 0 ρ j)
abbrev bg (j : Fin 56) (l : Fin 128) : EReal := x4 (ix2 0 (col j l))

/-- The product, the gradient, its code and its scale at a row of the block. -/
def pB (ρ : Fin 128) (j : Fin 56) (l : Fin 128) : EReal := kP (bx x0 ρ) (by' x2 ρ) (bs x1 ρ) (bs x3 ρ) (r ρ) j l
def dxB (ρ : Fin 128) (j : Fin 56) (l : Fin 128) : EReal :=
  kDx (bx x0 ρ) (by' x2 ρ) (bs x1 ρ) (bs x3 ρ) (bg x4) (r ρ) j l
def codeB (ρ : Fin 128) (d : Fin 7168) : EReal :=
  kCode (dxB x0 x1 x2 x3 x4 r ρ (blk d) (lane d)) (amax (dxB x0 x1 x2 x3 x4 r ρ (blk d)))
def scaleB (ρ : Fin 128) (j : Fin 56) : EReal := kScale (kExp (amax (dxB x0 x1 x2 x3 x4 r ρ j) * c448))
end

theorem load_at {sig : RefSig} {κ : Kind} {sp : Space} {s : Shape} {e : EltTy} (v : View sig κ sp s e) (f : v.ty.Contents (Elt Ideal))
    (G : s.Idx → Elt Ideal e) (hG : v.read (Elt Ideal) f = G) (off size : Fin s.rank → ℕ) (inb : ∀ a, off a + size a ≤ s.size a)
    (x : (Rect.unit off size inb).shape.Idx) (i : s.Idx) (off' : Fin s.rank → ℕ) (ho : off = off') (hi : ∀ a, (i a : ℕ) = off' a + x a) :
    View.readAt (Elt Ideal) v (Rect.unit (s := s) off size inb).toLoadRect f x = G i := by
  subst ho
  rw [View.readAt_eq_ld, hG]
  exact View.ld_unit_apply_of G off size inb x i hi

section
variable (arg2 : Memref sig .tc .vmem S1x128x7168 .fp8e4m3) (arg3 : Memref sig .tc .vmem S1x128x56 .f32)
  (arg4 : Memref sig .tc .vmem S1x128x7168 .fp8e5m2) (arg5 : Memref sig .tc .vmem S1x128x56 .f32)
  (arg6 : Memref sig .tc .vmem S1x7168 .f32) (arg11 : Memref sig .tc .vmem S8x7168 .f32) (arg12 : Memref sig .tc .vmem S128x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X12 : BufTy.Contents (Elt Ideal) arg12.view.ty)
  {x0 : Vec Ideal S1x128x7168 .fp8e4m3} {x1 : Vec Ideal S1x128x56 .f32} {x2 : Vec Ideal S1x128x7168 .fp8e5m2}
  {x3 : Vec Ideal S1x128x56 .f32} {x4 : Vec Ideal S1x7168 .f32} {R : Vec Ideal S128x128 .f32}
  (h2 : arg2.view.read (Elt Ideal) X2 = x0) (h3 : arg3.view.read (Elt Ideal) X3 = x1) (h4 : arg4.view.read (Elt Ideal) X4 = x2)
  (h5 : arg5.view.read (Elt Ideal) X5 = x3) (h6 : arg6.view.read (Elt Ideal) X6 = x4) (h12 : arg12.view.read (Elt Ideal) X12 = R)
  (k : Fin k0_t1_loop.trips) (j : Fin 56) (i : Fin 32) (l : Fin 128)

include h2 in
theorem rX_apply : rX arg2 X2 k j (ix3 0 i l) = x0 (ix3 0 (rowOf k i) (col j l)) := by
  refine load_at _ _ _ h2 _ _ _ _ _ _ (offC_eq j k) ?_
  intro a
  match a with
  | ⟨0, _⟩ => rfl
  | ⟨1, _⟩ => rfl
  | ⟨2, _⟩ => show j.val * 128 + l.val = 128 * j.val + l.val; omega
include h4 in
theorem rY_apply : rY arg4 X4 k j (ix3 0 i l) = x2 (ix3 0 (rowOf k i) (col j l)) := by
  refine load_at _ _ _ h4 _ _ _ _ _ _ (offC_eq j k) ?_
  intro a
  match a with
  | ⟨0, _⟩ => rfl
  | ⟨1, _⟩ => rfl
  | ⟨2, _⟩ => show j.val * 128 + l.val = 128 * j.val + l.val; omega
include h6 in
theorem rG_apply : rG arg6 X6 j (ix2 0 l) = x4 (ix2 0 (col j l)) := by
  refine load_at _ _ _ h6 _ _ _ _ _ _ rfl ?_
  intro a
  match a with
  | ⟨0, _⟩ => rfl
  | ⟨1, _⟩ => show j.val * 128 + l.val = 128 * j.val + l.val; omega
include h3 in
theorem rXs_apply : rXs arg3 X3 k (ix3 0 i j) = x1 (ix3 0 (rowOf k i) j) := by
  refine load_at _ _ _ h3 _ _ _ _ _ _ (k0_off3_eq k) ?_
  intro a
  match a with
  | ⟨0, _⟩ => rfl
  | ⟨1, _⟩ => rfl
  | ⟨2, _⟩ => show j.val = 0 + j.val; omega
include h5 in
theorem rYs_apply : rYs arg5 X5 k (ix3 0 i j) = x3 (ix3 0 (rowOf k i) j) := by
  refine load_at _ _ _ h5 _ _ _ _ _ _ (k0_off3_eq k) ?_
  intro a
  match a with
  | ⟨0, _⟩ => rfl
  | ⟨1, _⟩ => rfl
  | ⟨2, _⟩ => show j.val = 0 + j.val; omega
include h12 in
theorem rR_apply : rR arg12 X12 k (ix2 i 0) = R (ix2 (rowOf k i) 0) := by
  refine load_at _ _ _ h12 _ _ _ _ _ _ (k0_off2_eq k) ?_
  intro a
  match a with
  | ⟨0, _⟩ => rfl
  | ⟨1, _⟩ => rfl
theorem rA_apply (f : BufTy.Contents (Elt Ideal) arg11.view.ty) (a : Fin 8) :
    rA arg11 f j (ix2 a l) = arg11.view.read (Elt Ideal) f (ix2 a (col j l)) := by
  refine load_at _ _ _ rfl _ _ _ _ _ _ rfl ?_
  intro b
  match b with
  | ⟨0, _⟩ => show a.val = 0 + a.val; omega
  | ⟨1, _⟩ => show j.val * 128 + l.val = 128 * j.val + l.val; omega

include h2 h3 h4 h5 h12 in
theorem bP_apply : bP arg2 arg3 arg4 arg5 arg12 X2 X3 X4 X5 X12 k j (ix2 i l)
    = pB x0 x1 x2 x3 (fun ρ => R (ix2 ρ 0)) (rowOf k i) j l := by
  unfold bP bW
  rw [tP_apply, tW_apply, rX_apply arg2 X2 h2, rY_apply arg4 X4 h4, rXs_apply arg3 X3 h3, rYs_apply arg5 X5 h5, rR_apply arg12 X12 h12]
  rfl

include h2 h3 h4 h5 h6 h12 in
theorem bRow_apply : bRow arg2 arg3 arg4 arg5 arg6 arg12 X2 X3 X4 X5 X6 X12 k (ix1 i)
    = kRow (bx x0 (rowOf k i)) (by' x2 (rowOf k i)) (bs x1 (rowOf k i)) (bs x3 (rowOf k i)) (bg x4) (R (ix2 (rowOf k i) 0)) := by
  unfold bRow bW kRow
  rw [tRow_apply]
  refine Finset.sum_congr rfl fun l _ => ?_
  rw [tC_apply]
  refine Finset.sum_congr rfl fun j _ => ?_
  rw [tW_apply, rX_apply arg2 X2 h2, rY_apply arg4 X4 h4, rXs_apply arg3 X3 h3, rYs_apply arg5 X5 h5, rR_apply arg12 X12 h12, rG_apply arg6 X6 h6]
  rfl

theorem ys_apply (ys : Vec Ideal S1x32x56 .f32) (i : Fin 32) (j : Fin 56) :
    (shapeCast S32x56 ys shapeCasts_S1x32x56_S32x56 : FVec Ideal S32x56 .f32) (ix2 i j) = ys (ix3 0 i j) := by
  pointwise

include h2 h3 h4 h5 h6 h12 in
theorem bDx_apply : bDx arg2 arg3 arg4 arg5 arg6 arg12 X2 X3 X4 X5 X6 X12
      (bRow arg2 arg3 arg4 arg5 arg6 arg12 X2 X3 X4 X5 X6 X12 k) k j (ix2 i l)
    = dxB x0 x1 x2 x3 x4 (fun ρ => R (ix2 ρ 0)) (rowOf k i) j l := by
  unfold bDx
  rw [tDx_apply, pay178_apply, pay179_apply, tSx_apply, ys_apply, bRow_apply arg2 arg3 arg4 arg5 arg6 arg12 X2 X3 X4 X5 X6 X12 h2 h3 h4 h5 h6 h12,
    rX_apply arg2 X2 h2, rY_apply arg4 X4 h4, rXs_apply arg3 X3 h3, rYs_apply arg5 X5 h5, rR_apply arg12 X12 h12, rG_apply arg6 X6 h6]
  rfl

/-- The index a piece of the codes writes to, and its value there. -/
theorem pieceC_apply (row : FVec Ideal S32 .f32) (a : Fin 1) :
    (pieceC arg2 arg3 arg4 arg5 arg6 arg12 X2 X3 X4 X5 X6 X12 row k j).2 (ix3 a i l)
      = kCode (bDx arg2 arg3 arg4 arg5 arg6 arg12 X2 X3 X4 X5 X6 X12 row k j (ix2 i l))
          (amax fun l' => bDx arg2 arg3 arg4 arg5 arg6 arg12 X2 X3 X4 X5 X6 X12 row k j (ix2 i l')) := by
  unfold pieceC kCode
  generalize bDx arg2 arg3 arg4 arg5 arg6 arg12 X2 X3 X4 X5 X6 X12 row k j = D
  rw [← tT_apply, ← tE_apply, ← tQ_apply]
  generalize tQ D (tE (tT D)) = Q
  show shapeCast S1x32x128 Q _ (ix3 a i l) = _
  pointwise

theorem pieceS_apply (row : FVec Ideal S32 .f32) (a b : Fin 1) :
    (pieceS arg2 arg3 arg4 arg5 arg6 arg12 X2 X3 X4 X5 X6 X12 row k j).2 (ix3 a i b)
      = kScale (kExp ((amax fun l' => bDx arg2 arg3 arg4 arg5 arg6 arg12 X2 X3 X4 X5 X6 X12 row k j (ix2 i l')) * c448)) := by
  unfold pieceS
  generalize bDx arg2 arg3 arg4 arg5 arg6 arg12 X2 X3 X4 X5 X6 X12 row k j = D
  rw [← tT_apply, ← tE_apply, ← tS_apply]
  generalize (tS (tE (tT D)) : FVec Ideal S32x1 .f32) = Q
  show shapeCast S1x32x1 Q _ (ix3 a i b) = _
  pointwise

theorem pieceA_apply (f : BufTy.Contents (Elt Ideal) arg11.view.ty) (a : Fin 8) :
    (pieceA arg2 arg3 arg4 arg5 arg11 arg12 X2 X3 X4 X5 X12 k f j).2 (ix2 a l)
      = (arg11.view.read (Elt Ideal) f (ix2 a (col j l))
        + ∑ q : Fin 4, bP arg2 arg3 arg4 arg5 arg12 X2 X3 X4 X5 X12 k j (ix2 ⟨q.val * 8 + a.val, by omega⟩ l) : EReal) := by
  rw [← rA_apply]
  unfold pieceA
  generalize bP arg2 arg3 arg4 arg5 arg12 X2 X3 X4 X5 X12 k j = P
  exact acc_apply _ P a l
end

end Cert.KernelIdeal.Elem

end
-- ==== Proof.KernelIdeal.LoopValue.lean ====
/- The four trips over the extended reals: every piece of the codes and of the scales they write holds its row's values,
   and the accumulator gains the products of the trips' rows. -/
module

public import proofs.«01_k».proof.Proof.KernelIdeal.Reads

@[expose] public section

set_option maxRecDepth 8192
set_option maxHeartbeats 1000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.Math

theorem trips_eq : k0_t1_loop.trips = 4 := by decide

/-- The product at row `n` of the block and column `d`, `0` past the last row. -/
def pN (x0 : Vec Ideal S1x128x7168 .fp8e4m3) (x1 : Vec Ideal S1x128x56 .f32) (x2 : Vec Ideal S1x128x7168 .fp8e5m2)
    (x3 : Vec Ideal S1x128x56 .f32) (r : Fin 128 → EReal) (d : Fin 7168) (n : ℕ) : EReal :=
  if h : n < 128 then pB x0 x1 x2 x3 r ⟨n, h⟩ (blk d) (lane d) else 0

/-- What a point adds to row `a` of the accumulator in column `d`. -/
def accB (x0 : Vec Ideal S1x128x7168 .fp8e4m3) (x1 : Vec Ideal S1x128x56 .f32) (x2 : Vec Ideal S1x128x7168 .fp8e5m2)
    (x3 : Vec Ideal S1x128x56 .f32) (r : Fin 128 → EReal) (a : Fin 8) (d : Fin 7168) : EReal :=
  ∑ k ∈ Finset.range 4, ∑ q : Fin 4, pN x0 x1 x2 x3 r d (32 * k + (q.val * 8 + a.val))

section
variable (𝒱 : Variants) (c : Dev nD) (bd : Option 𝒱.V) (i : grid0.Coords)
  (arg2 : Memref sig .tc .vmem S1x128x7168 .fp8e4m3) (harg2 : arg2.IsWhole)
  (arg3 : Memref sig .tc .vmem S1x128x56 .f32) (harg3 : arg3.IsWhole)
  (arg4 : Memref sig .tc .vmem S1x128x7168 .fp8e5m2) (harg4 : arg4.IsWhole)
  (arg5 : Memref sig .tc .vmem S1x128x56 .f32) (harg5 : arg5.IsWhole)
  (arg6 : Memref sig .tc .vmem S1x7168 .f32) (harg6 : arg6.IsWhole)
  (arg7 : Memref sig .tc .vmem S4x384 .f32) (harg7 : arg7.IsWhole)
  (arg8 : Memref sig .tc .vmem S1x7168 .f32) (harg8 : arg8.IsWhole)
  (arg9 : Memref sig .tc .vmem S1x128x7168 .fp8e4m3) (harg9 : arg9.IsWhole)
  (arg10 : Memref sig .tc .vmem S1x128x56 .f32) (harg10 : arg10.IsWhole)
  (arg11 : Memref sig .tc .vmem S8x7168 .f32) (harg11 : arg11.IsWhole)
  (arg12 : Memref sig .tc .vmem S128x128 .f32) (harg12 : arg12.IsWhole)
  (X2 : BufTy.Contents (Elt Ideal) arg2.view.ty)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X12 : BufTy.Contents (Elt Ideal) arg12.view.ty)
  (G9 : BufTy.Contents (Elt Ideal) arg9.view.ty)
  (G10 : BufTy.Contents (Elt Ideal) arg10.view.ty)
  (G11 : BufTy.Contents (Elt Ideal) arg11.view.ty)

theorem pb_codes : ∀ n : ℕ, n ≤ k0_t1_loop.trips → ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 n).1, ∃ k j, p = pieceC arg2 arg3 arg4 arg5 arg6 arg12 X2 X3 X4 X5 X6 X12 (bRow arg2 arg3 arg4 arg5 arg6 arg12 X2 X3 X4 X5 X6 X12 k) k j := by
  intro n
  induction n with
  | zero => intro _ p hp; exact absurd hp List.not_mem_nil
  | succ n ih =>
    intro hn p hp
    rw [pb_k0_t1_succ 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 ⟨n, hn⟩] at hp
    rcases List.mem_append.mp hp with h | h
    · unfold tripL_k0_t1 at h
      rw [trip_out_pieces, row_eq] at h
      obtain ⟨j, -, rfl⟩ := List.mem_map.mp h
      exact ⟨_, j, rfl⟩
    · exact ih (Nat.le_of_succ_le hn) p h

theorem pb_scales : ∀ n : ℕ, n ≤ k0_t1_loop.trips → ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 n).2.1, ∃ k j, p = pieceS arg2 arg3 arg4 arg5 arg6 arg12 X2 X3 X4 X5 X6 X12 (bRow arg2 arg3 arg4 arg5 arg6 arg12 X2 X3 X4 X5 X6 X12 k) k j := by
  intro n
  induction n with
  | zero => intro _ p hp; exact absurd hp List.not_mem_nil
  | succ n ih =>
    intro hn p hp
    rw [pb_k0_t1_succ 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 ⟨n, hn⟩] at hp
    rcases List.mem_append.mp hp with h | h
    · unfold tripL_k0_t1 at h
      rw [trip_scale_pieces, row_eq] at h
      obtain ⟨j, -, rfl⟩ := List.mem_map.mp h
      exact ⟨_, j, rfl⟩
    · exact ih (Nat.le_of_succ_le hn) p h

variable {x0 : Vec Ideal S1x128x7168 .fp8e4m3} {x1 : Vec Ideal S1x128x56 .f32} {x2 : Vec Ideal S1x128x7168 .fp8e5m2}
  {x3 : Vec Ideal S1x128x56 .f32} {x4 : Vec Ideal S1x7168 .f32} {R : Vec Ideal S128x128 .f32}
  (h2 : arg2.view.read (Elt Ideal) X2 = x0) (h3 : arg3.view.read (Elt Ideal) X3 = x1) (h4 : arg4.view.read (Elt Ideal) X4 = x2)
  (h5 : arg5.view.read (Elt Ideal) X5 = x3) (h6 : arg6.view.read (Elt Ideal) X6 = x4) (h12 : arg12.view.read (Elt Ideal) X12 = R)

include h2 h3 h4 h5 h6 h12 in
/-- Reading codes through any view, where the trips' pieces cover. -/
theorem read_codes {sig' : RefSig} {κ' : Kind} {sp' : Space} (v : View sig' κ' sp' S1x128x7168 .fp8e4m3) (f : v.ty.Contents (Elt Ideal))
    (L : List (View.Piece (Elt Ideal) S1x128x7168 .fp8e4m3)) (hL : ∀ p ∈ L, ∃ k j, p = pieceC arg2 arg3 arg4 arg5 arg6 arg12 X2 X3 X4 X5 X6 X12 (bRow arg2 arg3 arg4 arg5 arg6 arg12 X2 X3 X4 X5 X6 X12 k) k j) (y : S1x128x7168.Idx)
    (hy : ∃ p ∈ L, y ∈ p.1.set) :
    v.read (Elt Ideal) (v.writes (Elt Ideal) f L) y = codeB x0 x1 x2 x3 x4 (fun ρ => R (ix2 ρ 0)) (y 1) (y 2) := by
  refine View.read_writes_apply_of_pieces v f (fun y => codeB x0 x1 x2 x3 x4 (fun ρ => R (ix2 ρ 0)) (y 1) (y 2)) L ?_ y hy
  intro p hp x
  obtain ⟨k, j, rfl⟩ := hL p hp
  obtain ⟨a, i, l, rfl⟩ : ∃ (a : Fin 1) (i : Fin 32) (l : Fin 128), x = ix3 a i l := ⟨_, _, _, eq_ix3 (n0 := 1) (n1 := 32) (n2 := 128) x⟩
  have e1 : ((pieceC arg2 arg3 arg4 arg5 arg6 arg12 X2 X3 X4 X5 X6 X12 (bRow arg2 arg3 arg4 arg5 arg6 arg12 X2 X3 X4 X5 X6 X12 k) k j).1.emb (ix3 a i l) 1 : Fin 128) = rowOf k i := by
    apply Fin.ext
    refine (Rect.idx_unit_val (s := S1x128x7168) (offC j k) S1x32x128.size (offC_inb j k) (ix3 a i l) 1).trans ?_
    exact congrArg (· + i.val) (congrFun (offC_eq j k) 1)
  have e2 : ((pieceC arg2 arg3 arg4 arg5 arg6 arg12 X2 X3 X4 X5 X6 X12 (bRow arg2 arg3 arg4 arg5 arg6 arg12 X2 X3 X4 X5 X6 X12 k) k j).1.emb (ix3 a i l) 2 : Fin 7168) = col j l := by
    apply Fin.ext
    refine (Rect.idx_unit_val (s := S1x128x7168) (offC j k) S1x32x128.size (offC_inb j k) (ix3 a i l) 2).trans ?_
    refine (congrArg (· + l.val) (congrFun (offC_eq j k) 2)).trans ?_
    show 128 * j.val + l.val = j.val * 128 + l.val
    omega
  have e3 : blk (col j l) = j := Fin.ext (by
    show (j.val * 128 + l.val) / 128 = j.val
    have h : l.val < 128 := l.isLt
    omega)
  have e4 : lane (col j l) = l := Fin.ext (by
    show (j.val * 128 + l.val) % 128 = l.val
    have h : l.val < 128 := l.isLt
    omega)
  show (pieceC arg2 arg3 arg4 arg5 arg6 arg12 X2 X3 X4 X5 X6 X12 (bRow arg2 arg3 arg4 arg5 arg6 arg12 X2 X3 X4 X5 X6 X12 k) k j).2 (ix3 a i l) = codeB x0 x1 x2 x3 x4 (fun ρ => R (ix2 ρ 0)) ((pieceC arg2 arg3 arg4 arg5 arg6 arg12 X2 X3 X4 X5 X6 X12 (bRow arg2 arg3 arg4 arg5 arg6 arg12 X2 X3 X4 X5 X6 X12 k) k j).1.emb (ix3 a i l) 1) ((pieceC arg2 arg3 arg4 arg5 arg6 arg12 X2 X3 X4 X5 X6 X12 (bRow arg2 arg3 arg4 arg5 arg6 arg12 X2 X3 X4 X5 X6 X12 k) k j).1.emb (ix3 a i l) 2)
  rw [e1, e2]
  unfold codeB
  rw [e3, e4]
  refine (pieceC_apply arg2 arg3 arg4 arg5 arg6 arg12 X2 X3 X4 X5 X6 X12 k j i l _ a).trans ?_
  have e := bDx_apply arg2 arg3 arg4 arg5 arg6 arg12 X2 X3 X4 X5 X6 X12 h2 h3 h4 h5 h6 h12 k j i
  rw [e]
  congr 2
  funext l
  exact e l

include h2 h3 h4 h5 h6 h12 in
/-- Reading scales through any view, where the trips' pieces cover. -/
theorem read_scales {sig' : RefSig} {κ' : Kind} {sp' : Space} (v : View sig' κ' sp' S1x128x56 .f32) (f : v.ty.Contents (Elt Ideal))
    (L : List (View.Piece (Elt Ideal) S1x128x56 .f32)) (hL : ∀ p ∈ L, ∃ k j, p = pieceS arg2 arg3 arg4 arg5 arg6 arg12 X2 X3 X4 X5 X6 X12 (bRow arg2 arg3 arg4 arg5 arg6 arg12 X2 X3 X4 X5 X6 X12 k) k j) (y : S1x128x56.Idx)
    (hy : ∃ p ∈ L, y ∈ p.1.set) :
    v.read (Elt Ideal) (v.writes (Elt Ideal) f L) y = scaleB x0 x1 x2 x3 x4 (fun ρ => R (ix2 ρ 0)) (y 1) (y 2) := by
  refine View.read_writes_apply_of_pieces v f (fun y => scaleB x0 x1 x2 x3 x4 (fun ρ => R (ix2 ρ 0)) (y 1) (y 2)) L ?_ y hy
  intro p hp x
  obtain ⟨k, j, rfl⟩ := hL p hp
  obtain ⟨a, i, l, rfl⟩ : ∃ (a : Fin 1) (i : Fin 32) (l : Fin 1), x = ix3 a i l := ⟨_, _, _, eq_ix3 (n0 := 1) (n1 := 32) (n2 := 1) x⟩
  have e1 : ((pieceS arg2 arg3 arg4 arg5 arg6 arg12 X2 X3 X4 X5 X6 X12 (bRow arg2 arg3 arg4 arg5 arg6 arg12 X2 X3 X4 X5 X6 X12 k) k j).1.emb (ix3 a i l) 1 : Fin 128) = rowOf k i := by
    apply Fin.ext
    refine (Rect.idx_unit_val (s := S1x128x56) (offS j k) S1x32x1.size (offS_inb j k) (ix3 a i l) 1).trans ?_
    exact congrArg (· + i.val) (congrFun (offS_eq j k) 1)
  have e2 : ((pieceS arg2 arg3 arg4 arg5 arg6 arg12 X2 X3 X4 X5 X6 X12 (bRow arg2 arg3 arg4 arg5 arg6 arg12 X2 X3 X4 X5 X6 X12 k) k j).1.emb (ix3 a i l) 2 : Fin 56) = j := by
    apply Fin.ext
    refine (Rect.idx_unit_val (s := S1x128x56) (offS j k) S1x32x1.size (offS_inb j k) (ix3 a i l) 2).trans ?_
    refine (congrArg (· + l.val) (congrFun (offS_eq j k) 2)).trans ?_
    show j.val + l.val = j.val
    have h : l.val < 1 := l.isLt
    omega
  show (pieceS arg2 arg3 arg4 arg5 arg6 arg12 X2 X3 X4 X5 X6 X12 (bRow arg2 arg3 arg4 arg5 arg6 arg12 X2 X3 X4 X5 X6 X12 k) k j).2 (ix3 a i l) = scaleB x0 x1 x2 x3 x4 (fun ρ => R (ix2 ρ 0)) ((pieceS arg2 arg3 arg4 arg5 arg6 arg12 X2 X3 X4 X5 X6 X12 (bRow arg2 arg3 arg4 arg5 arg6 arg12 X2 X3 X4 X5 X6 X12 k) k j).1.emb (ix3 a i l) 1) ((pieceS arg2 arg3 arg4 arg5 arg6 arg12 X2 X3 X4 X5 X6 X12 (bRow arg2 arg3 arg4 arg5 arg6 arg12 X2 X3 X4 X5 X6 X12 k) k j).1.emb (ix3 a i l) 2)
  rw [e1, e2]
  unfold scaleB
  refine (pieceS_apply arg2 arg3 arg4 arg5 arg6 arg12 X2 X3 X4 X5 X6 X12 k j i _ a l).trans ?_
  have e := bDx_apply arg2 arg3 arg4 arg5 arg6 arg12 X2 X3 X4 X5 X6 X12 h2 h3 h4 h5 h6 h12 k j i
  congr 4
  funext l
  exact e l

include h2 h3 h4 h5 h12 in
/-- The accumulator after `n` trips. -/
theorem pb_acc (a : Fin 8) (d : Fin 7168) : ∀ n : ℕ, n ≤ k0_t1_loop.trips →
    arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 n).2.2) (ix2 a d)
      = (arg11.view.read (Elt Ideal) G11 (ix2 a d)
        + ∑ k ∈ Finset.range n, ∑ q : Fin 4, pN x0 x1 x2 x3 (fun ρ => R (ix2 ρ 0)) d (32 * k + (q.val * 8 + a.val)) : EReal) := by
  intro n
  induction n with
  | zero => intro _; rw [Finset.range_zero, Finset.sum_empty, add_zero]; rfl
  | succ n ih =>
    intro hn
    rw [pb_k0_t1_succ 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 ⟨n, hn⟩]
    unfold tripL_k0_t1
    rw [trip_acc_pieces, View.writes_append, Finset.sum_range_succ, ← add_assoc, ← ih (Nat.le_of_succ_le hn)]
    generalize (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 X5 X6 X12 G9 G10 G11 n).2.2) = f
    have hcov : ∃ p ∈ blocks.map (pieceA arg2 arg3 arg4 arg5 arg11 arg12 X2 X3 X4 X5 X12 ⟨n, hn⟩ f), (ix2 a d : S8x7168.Idx) ∈ p.1.set := by
      refine ⟨_, List.mem_map.mpr ⟨blk d, mem_blocks _, rfl⟩, ?_⟩
      refine (Rect.mem_set_unit (s := S8x7168) (inb := offR_inb8 (blk d))).mpr fun b => ?_
      match b with
      | ⟨0, _⟩ => exact ⟨Nat.zero_le _, by show a.val < 0 + 8; omega⟩
      | ⟨1, _⟩ => exact ⟨by show 128 * (d.val / 128) ≤ d.val; omega, by show d.val < 128 * (d.val / 128) + 128; omega⟩
    refine (View.read_writes_apply_of_pieces arg11.view f (fun y => (arg11.view.read (Elt Ideal) f y
        + ∑ q : Fin 4, pN x0 x1 x2 x3 (fun ρ => R (ix2 ρ 0)) (y 1) (32 * n + (q.val * 8 + (y 0).val)) : EReal)) _ ?_ _ hcov).trans rfl
    intro p hp x
    obtain ⟨j, -, rfl⟩ := List.mem_map.mp hp
    obtain ⟨a, l, rfl⟩ : ∃ (a : Fin 8) (l : Fin 128), x = ix2 a l := ⟨_, _, eq_ix2 (n0 := 8) (n1 := 128) x⟩
    have e0 : ((pieceA arg2 arg3 arg4 arg5 arg11 arg12 X2 X3 X4 X5 X12 ⟨n, hn⟩ f j).1.emb (ix2 a l) : S8x7168.Idx) = ix2 a (col j l) := by
      refine Rect.emb_eq_of_coords _ _ _ fun b => ?_
      match b with
      | ⟨0, _⟩ => show a.val = 0 + 1 * a.val; omega
      | ⟨1, _⟩ => show j.val * 128 + l.val = 128 * j.val + 1 * l.val; omega
    have h1 : l.val < 128 := l.isLt
    have h0 : a.val < 8 := a.isLt
    have e3 : blk (col j l) = j := Fin.ext (by
      show (j.val * 128 + l.val) / 128 = j.val
      omega)
    have e4 : lane (col j l) = l := Fin.ext (by
      show (j.val * 128 + l.val) % 128 = l.val
      omega)
    rw [e0]
    refine (pieceA_apply arg2 arg3 arg4 arg5 arg11 arg12 X2 X3 X4 X5 X12 ⟨n, hn⟩ j l f a).trans ?_
    refine congrArg _ (Finset.sum_congr rfl fun q _ => ?_)
    rw [bP_apply arg2 arg3 arg4 arg5 arg12 X2 X3 X4 X5 X12 h2 h3 h4 h5 h12]
    unfold pN
    have hq := q.isLt
    have hn4 : n < 4 := by have := trips_eq; omega
    have hlt : 32 * n + (q.val * 8 + a.val) < 128 := by omega
    refine Eq.trans ?_ (dif_pos hlt).symm
    show _ = pB x0 x1 x2 x3 (fun ρ => R (ix2 ρ 0)) _ (blk (col j l)) (lane (col j l))
    rw [e3, e4]
    rfl
end

end Cert.KernelIdeal.Elem

end
-- ==== Proof.KernelIdeal.Points.lean ====
/- What the body leaves at a grid point over the extended reals: the codes and scales of the block's rows, the accumulator
   with the block's products added, and at the last point the sum of the accumulator's rows. -/
module

public import proofs.«01_k».proof.Proof.KernelIdeal.LoopValue
public import proofs.«01_k».proof.Proof.KernelIdeal.Frame
public import Idealize.ShloMosaic.Lib.WritesUnit

@[expose] public section

set_option maxRecDepth 8192
set_option maxHeartbeats 1000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.Math

/-- The `rstd` of the point's rows. -/
def rs (i : grid0.Coords) (x5 : Vec Ideal S4x384 .f32) (ρ : Fin 128) : EReal :=
  x5 (ix2 (i 0) ⟨128 * (i 1).val + ρ.val, by have h : (i 1).val < 3 := (i 1).isLt; omega⟩)

theorem sel_eq : ∀ b n : Fin 4, IntOp.cmpi CmpIPredicate.eq (BitVec.ofNat 32 b.val) (BitVec.ofNat 32 n.val) = if b = n then 1#1 else 0#1 := by
  decide

theorem pay2_apply (i : grid0.Coords) (v : Vec Ideal S4x128 .f32) (ρ e : Fin 128) :
    k0_pay2 i v (ix2 ρ e) = v (ix2 (i 0) ρ) := by
  have key : k0_pay2 i v (ix2 ρ e) = (∑ b : Fin 4, if b = (show Fin 4 from i 0) then v (ix2 b ρ) else 0 : EReal) := by
    rw [← Ideal.ofBits_zero_f32]
    pointwise [k0_pay2]
    refine Finset.sum_congr rfl fun b _ => ?_
    have e := sel_eq b (show Fin 4 from i 0)
    by_cases h : b = (show Fin 4 from i 0)
    · rw [if_pos h] at e ⊢
      refine (congrArg (fun t => Scalar.select t _ _) e).trans ?_
      rfl
    · rw [if_neg h] at e ⊢
      refine (congrArg (fun t => Scalar.select t _ _) e).trans ?_
      rfl
  rw [key, Finset.sum_ite_eq' Finset.univ (show Fin 4 from i 0)]
  exact if_pos (Finset.mem_univ _)

theorem pay1_apply (a : Fin 8) (d : Fin 7168) : (k0_pay1 : FVec Ideal S8x7168 .f32) (ix2 a d) = (0 : EReal) := by
  rw [← Ideal.ofBits_zero_f32]
  pointwise [k0_pay1]

theorem pay6_apply (v : Vec Ideal S8x7168 .f32) (z : Fin 1) (d : Fin 7168) :
    k0_pay6 v (ix2 z d) = (∑ a : Fin 8, v (ix2 a d) : EReal) := by
  pointwise [k0_pay6]

section
variable (c : Dev nD) (i : grid0.Coords)
  (arg2 : Memref sig .tc .vmem S1x128x7168 .fp8e4m3) (harg2 : arg2.IsWhole)
  (arg3 : Memref sig .tc .vmem S1x128x56 .f32) (harg3 : arg3.IsWhole)
  (arg4 : Memref sig .tc .vmem S1x128x7168 .fp8e5m2) (harg4 : arg4.IsWhole)
  (arg5 : Memref sig .tc .vmem S1x128x56 .f32) (harg5 : arg5.IsWhole)
  (arg6 : Memref sig .tc .vmem S1x7168 .f32) (harg6 : arg6.IsWhole)
  (arg7 : Memref sig .tc .vmem S4x384 .f32) (harg7 : arg7.IsWhole)
  (arg8 : Memref sig .tc .vmem S1x7168 .f32) (harg8 : arg8.IsWhole)
  (arg9 : Memref sig .tc .vmem S1x128x7168 .fp8e4m3) (harg9 : arg9.IsWhole)
  (arg10 : Memref sig .tc .vmem S1x128x56 .f32) (harg10 : arg10.IsWhole)
  (arg11 : Memref sig .tc .vmem S8x7168 .f32) (harg11 : arg11.IsWhole)
  (arg12 : Memref sig .tc .vmem S128x128 .f32) (harg12 : arg12.IsWhole)
  (x0 : Vec Ideal S1x128x7168 .fp8e4m3) (x1 : Vec Ideal S1x128x56 .f32) (x2 : Vec Ideal S1x128x7168 .fp8e5m2)
  (x3 : Vec Ideal S1x128x56 .f32) (x4 : Vec Ideal S1x7168 .f32) (x5 : Vec Ideal S4x384 .f32) (xs0 : Vec Ideal S8x7168 .f32)

theorem rcol_A (ρ : Fin 128) : arg12.view.read (Elt Ideal) (arg12.view.writes (Elt Ideal) arg12.view.junk (kernelRun0_A.sl.HS1_1 (F := Ideal) c i arg7 harg7 x5)) (ix2 ρ 0) = rs i x5 ρ := by
  unfold kernelRun0_A.sl.HS1_1
  refine (View.read_writes_cons_unit_of_mem _ _ _ _ _ (ix2 ρ 0) (ix2 ρ 0) rfl fun a => ?_).trans ?_
  · match a with
    | ⟨0, _⟩ => exact (Nat.zero_add _).symm
    | ⟨1, _⟩ => rfl
  · refine (pay2_apply i _ ρ 0).trans ?_
    refine load_at _ _ _ (Memref.IsWhole.read_unread _ _) _ _ _ _ _ _ (k0_off1_eq i) ?_
    intro a
    match a with
    | ⟨0, _⟩ => exact (Nat.zero_add _).symm
    | ⟨1, _⟩ => rfl

theorem out_A_7 (hc0 : cond0_0 i) (hc1 : ¬cond0_1 i) (y : S1x128x7168.Idx) :
    out0_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 y = codeB x0 x1 x2 x3 x4 (rs i x5) (y 1) (y 2) := by
  have hr : (fun ρ : Fin 128 => (arg12.view.read (Elt Ideal) (arg12.view.writes (Elt Ideal) arg12.view.junk (kernelRun0_A.sl.HS1_1 (F := Ideal) c i arg7 harg7 x5)) (ix2 ρ 0) : EReal)) = rs i x5 :=
    funext fun ρ => rcol_A c i arg7 harg7 arg12 x5 ρ
  rw [← hr]
  unfold out0_A_7
  exact read_codes arg2 arg3 arg4 arg5 arg6 arg12 (harg2.unread x0) (harg3.unread x1) (harg4.unread x2) (harg5.unread x3) (harg6.unread x4) (arg12.view.writes (Elt Ideal) arg12.view.junk (kernelRun0_A.sl.HS1_1 (F := Ideal) c i arg7 harg7 x5)) (harg2.read_unread x0) (harg3.read_unread x1) (harg4.read_unread x2) (harg5.read_unread x3) (harg6.read_unread x4) rfl VO0_7 VO0_7.junk _
    (pb_codes Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_A.sl.HS1_1 (F := Ideal) c i arg7 harg7 x5)) arg9.view.junk arg10.view.junk (arg11.view.writes (Elt Ideal) arg11.view.junk (kernelRun0_A.sl.HS0_1 (F := Ideal))) k0_t1_loop.trips le_rfl) y
    (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 y)

theorem out_A_8 (hc0 : cond0_0 i) (hc1 : ¬cond0_1 i) (y : S1x128x56.Idx) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 y = scaleB x0 x1 x2 x3 x4 (rs i x5) (y 1) (y 2) := by
  have hr : (fun ρ : Fin 128 => (arg12.view.read (Elt Ideal) (arg12.view.writes (Elt Ideal) arg12.view.junk (kernelRun0_A.sl.HS1_1 (F := Ideal) c i arg7 harg7 x5)) (ix2 ρ 0) : EReal)) = rs i x5 :=
    funext fun ρ => rcol_A c i arg7 harg7 arg12 x5 ρ
  rw [← hr]
  unfold out0_A_8
  exact read_scales arg2 arg3 arg4 arg5 arg6 arg12 (harg2.unread x0) (harg3.unread x1) (harg4.unread x2) (harg5.unread x3) (harg6.unread x4) (arg12.view.writes (Elt Ideal) arg12.view.junk (kernelRun0_A.sl.HS1_1 (F := Ideal) c i arg7 harg7 x5)) (harg2.read_unread x0) (harg3.read_unread x1) (harg4.read_unread x2) (harg5.read_unread x3) (harg6.read_unread x4) rfl VO0_8 VO0_8.junk _
    (pb_scales Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_A.sl.HS1_1 (F := Ideal) c i arg7 harg7 x5)) arg9.view.junk arg10.view.junk (arg11.view.writes (Elt Ideal) arg11.view.junk (kernelRun0_A.sl.HS0_1 (F := Ideal))) k0_t1_loop.trips le_rfl) y
    (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 y)

theorem loop_acc_A (a : Fin 8) (d : Fin 7168) :
    arg11.view.read (Elt Ideal) (arg11.view.writes (Elt Ideal) (arg11.view.writes (Elt Ideal) arg11.view.junk (kernelRun0_A.sl.HS0_1 (F := Ideal)))
      (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_A.sl.HS1_1 (F := Ideal) c i arg7 harg7 x5)) arg9.view.junk arg10.view.junk (arg11.view.writes (Elt Ideal) arg11.view.junk (kernelRun0_A.sl.HS0_1 (F := Ideal))) k0_t1_loop.trips).2.2) (ix2 a d)
      = ((0 : EReal) + accB x0 x1 x2 x3 (rs i x5) a d : EReal) := by
  have hr : (fun ρ : Fin 128 => (arg12.view.read (Elt Ideal) (arg12.view.writes (Elt Ideal) arg12.view.junk (kernelRun0_A.sl.HS1_1 (F := Ideal) c i arg7 harg7 x5)) (ix2 ρ 0) : EReal)) = rs i x5 :=
    funext fun ρ => rcol_A c i arg7 harg7 arg12 x5 ρ
  rw [← hr]
  refine (pb_acc Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_A.sl.HS1_1 (F := Ideal) c i arg7 harg7 x5)) arg9.view.junk arg10.view.junk (arg11.view.writes (Elt Ideal) arg11.view.junk (kernelRun0_A.sl.HS0_1 (F := Ideal))) (harg2.read_unread x0) (harg3.read_unread x1) (harg4.read_unread x2) (harg5.read_unread x3) rfl a d k0_t1_loop.trips le_rfl).trans ?_
  rw [trips_eq]
  unfold accB
  refine congrArg (· + _) ?_
  unfold kernelRun0_A.sl.HS0_1
  refine (View.read_writes_cons_unit_of_mem _ _ _ _ _ (ix2 a d) (ix2 a d) rfl fun b => ?_).trans (pay1_apply a d)
  match b with
  | ⟨0, _⟩ => exact (Nat.zero_add _).symm
  | ⟨1, _⟩ => exact (Nat.zero_add _).symm

theorem sout_A (hc0 : cond0_0 i) (hc1 : ¬cond0_1 i) (a : Fin 8) (d : Fin 7168) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 (ix2 a d) = ((0 : EReal) + accB x0 x1 x2 x3 (rs i x5) a d : EReal) := by
  rw [← loop_acc_A c i arg2 harg2 arg3 harg3 arg4 harg4 arg5 harg5 arg6 harg6 arg7 harg7 arg8 harg8 arg9 harg9 arg10 harg10 arg11 harg11 arg12 harg12 x0 x1 x2 x3 x4 x5]
  unfold sout0_A_0
  rw [← View.writes_append]
  exact View.read_writes_apply_eq VS0_0 VS0_0.junk arg11.view arg11.view.junk (ix2 a d) _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 (ix2 a d))

theorem rcol_B (ρ : Fin 128) : arg12.view.read (Elt Ideal) (arg12.view.writes (Elt Ideal) arg12.view.junk (kernelRun0_B.sl.HS1_1 (F := Ideal) c i arg7 harg7 x5)) (ix2 ρ 0) = rs i x5 ρ := by
  unfold kernelRun0_B.sl.HS1_1
  refine (View.read_writes_cons_unit_of_mem _ _ _ _ _ (ix2 ρ 0) (ix2 ρ 0) rfl fun a => ?_).trans ?_
  · match a with
    | ⟨0, _⟩ => exact (Nat.zero_add _).symm
    | ⟨1, _⟩ => rfl
  · refine (pay2_apply i _ ρ 0).trans ?_
    refine load_at _ _ _ (Memref.IsWhole.read_unread _ _) _ _ _ _ _ _ (k0_off1_eq i) ?_
    intro a
    match a with
    | ⟨0, _⟩ => exact (Nat.zero_add _).symm
    | ⟨1, _⟩ => rfl

theorem out_B_7 (hc0 : ¬cond0_0 i) (hc1 : ¬cond0_1 i) (y : S1x128x7168.Idx) :
    out0_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 y = codeB x0 x1 x2 x3 x4 (rs i x5) (y 1) (y 2) := by
  have hr : (fun ρ : Fin 128 => (arg12.view.read (Elt Ideal) (arg12.view.writes (Elt Ideal) arg12.view.junk (kernelRun0_B.sl.HS1_1 (F := Ideal) c i arg7 harg7 x5)) (ix2 ρ 0) : EReal)) = rs i x5 :=
    funext fun ρ => rcol_B c i arg7 harg7 arg12 x5 ρ
  rw [← hr]
  unfold out0_B_7
  exact read_codes arg2 arg3 arg4 arg5 arg6 arg12 (harg2.unread x0) (harg3.unread x1) (harg4.unread x2) (harg5.unread x3) (harg6.unread x4) (arg12.view.writes (Elt Ideal) arg12.view.junk (kernelRun0_B.sl.HS1_1 (F := Ideal) c i arg7 harg7 x5)) (harg2.read_unread x0) (harg3.read_unread x1) (harg4.read_unread x2) (harg5.read_unread x3) (harg6.read_unread x4) rfl VO0_7 VO0_7.junk _
    (pb_codes Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_B.sl.HS1_1 (F := Ideal) c i arg7 harg7 x5)) arg9.view.junk arg10.view.junk (harg11.unread xs0) k0_t1_loop.trips le_rfl) y
    (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 y)

theorem out_B_8 (hc0 : ¬cond0_0 i) (hc1 : ¬cond0_1 i) (y : S1x128x56.Idx) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 y = scaleB x0 x1 x2 x3 x4 (rs i x5) (y 1) (y 2) := by
  have hr : (fun ρ : Fin 128 => (arg12.view.read (Elt Ideal) (arg12.view.writes (Elt Ideal) arg12.view.junk (kernelRun0_B.sl.HS1_1 (F := Ideal) c i arg7 harg7 x5)) (ix2 ρ 0) : EReal)) = rs i x5 :=
    funext fun ρ => rcol_B c i arg7 harg7 arg12 x5 ρ
  rw [← hr]
  unfold out0_B_8
  exact read_scales arg2 arg3 arg4 arg5 arg6 arg12 (harg2.unread x0) (harg3.unread x1) (harg4.unread x2) (harg5.unread x3) (harg6.unread x4) (arg12.view.writes (Elt Ideal) arg12.view.junk (kernelRun0_B.sl.HS1_1 (F := Ideal) c i arg7 harg7 x5)) (harg2.read_unread x0) (harg3.read_unread x1) (harg4.read_unread x2) (harg5.read_unread x3) (harg6.read_unread x4) rfl VO0_8 VO0_8.junk _
    (pb_scales Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_B.sl.HS1_1 (F := Ideal) c i arg7 harg7 x5)) arg9.view.junk arg10.view.junk (harg11.unread xs0) k0_t1_loop.trips le_rfl) y
    (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 xs0 y)

theorem loop_acc_B (a : Fin 8) (d : Fin 7168) :
    arg11.view.read (Elt Ideal) (arg11.view.writes (Elt Ideal) (harg11.unread xs0)
      (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_B.sl.HS1_1 (F := Ideal) c i arg7 harg7 x5)) arg9.view.junk arg10.view.junk (harg11.unread xs0) k0_t1_loop.trips).2.2) (ix2 a d)
      = (xs0 (ix2 a d) + accB x0 x1 x2 x3 (rs i x5) a d : EReal) := by
  have hr : (fun ρ : Fin 128 => (arg12.view.read (Elt Ideal) (arg12.view.writes (Elt Ideal) arg12.view.junk (kernelRun0_B.sl.HS1_1 (F := Ideal) c i arg7 harg7 x5)) (ix2 ρ 0) : EReal)) = rs i x5 :=
    funext fun ρ => rcol_B c i arg7 harg7 arg12 x5 ρ
  rw [← hr]
  refine (pb_acc Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_B.sl.HS1_1 (F := Ideal) c i arg7 harg7 x5)) arg9.view.junk arg10.view.junk (harg11.unread xs0) (harg2.read_unread x0) (harg3.read_unread x1) (harg4.read_unread x2) (harg5.read_unread x3) rfl a d k0_t1_loop.trips le_rfl).trans ?_
  rw [trips_eq]
  unfold accB
  rw [harg11.read_unread]

theorem sout_B (hc0 : ¬cond0_0 i) (hc1 : ¬cond0_1 i) (a : Fin 8) (d : Fin 7168) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 (ix2 a d) = (xs0 (ix2 a d) + accB x0 x1 x2 x3 (rs i x5) a d : EReal) := by
  rw [← loop_acc_B c i arg2 harg2 arg3 harg3 arg4 harg4 arg5 harg5 arg6 harg6 arg7 harg7 arg8 harg8 arg9 harg9 arg10 harg10 arg11 harg11 arg12 harg12 x0 x1 x2 x3 x4 x5 xs0]
  unfold sout0_B_0
  exact View.read_writes_apply_eq VS0_0 VS0_0.junk arg11.view (harg11.unread xs0) (ix2 a d) _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 (ix2 a d))

theorem rcol_C (ρ : Fin 128) : arg12.view.read (Elt Ideal) (arg12.view.writes (Elt Ideal) arg12.view.junk (kernelRun0_C.sl.HS1_1 (F := Ideal) c i arg7 harg7 x5)) (ix2 ρ 0) = rs i x5 ρ := by
  unfold kernelRun0_C.sl.HS1_1
  refine (View.read_writes_cons_unit_of_mem _ _ _ _ _ (ix2 ρ 0) (ix2 ρ 0) rfl fun a => ?_).trans ?_
  · match a with
    | ⟨0, _⟩ => exact (Nat.zero_add _).symm
    | ⟨1, _⟩ => rfl
  · refine (pay2_apply i _ ρ 0).trans ?_
    refine load_at _ _ _ (Memref.IsWhole.read_unread _ _) _ _ _ _ _ _ (k0_off1_eq i) ?_
    intro a
    match a with
    | ⟨0, _⟩ => exact (Nat.zero_add _).symm
    | ⟨1, _⟩ => rfl

theorem out_C_7 (hc0 : ¬cond0_0 i) (hc1 : cond0_1 i) (y : S1x128x7168.Idx) :
    out0_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 y = codeB x0 x1 x2 x3 x4 (rs i x5) (y 1) (y 2) := by
  have hr : (fun ρ : Fin 128 => (arg12.view.read (Elt Ideal) (arg12.view.writes (Elt Ideal) arg12.view.junk (kernelRun0_C.sl.HS1_1 (F := Ideal) c i arg7 harg7 x5)) (ix2 ρ 0) : EReal)) = rs i x5 :=
    funext fun ρ => rcol_C c i arg7 harg7 arg12 x5 ρ
  rw [← hr]
  unfold out0_C_7
  exact read_codes arg2 arg3 arg4 arg5 arg6 arg12 (harg2.unread x0) (harg3.unread x1) (harg4.unread x2) (harg5.unread x3) (harg6.unread x4) (arg12.view.writes (Elt Ideal) arg12.view.junk (kernelRun0_C.sl.HS1_1 (F := Ideal) c i arg7 harg7 x5)) (harg2.read_unread x0) (harg3.read_unread x1) (harg4.read_unread x2) (harg5.read_unread x3) (harg6.read_unread x4) rfl VO0_7 VO0_7.junk _
    (pb_codes Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_C.sl.HS1_1 (F := Ideal) c i arg7 harg7 x5)) arg9.view.junk arg10.view.junk (harg11.unread xs0) k0_t1_loop.trips le_rfl) y
    (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 y)

theorem out_C_8 (hc0 : ¬cond0_0 i) (hc1 : cond0_1 i) (y : S1x128x56.Idx) :
    out0_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 y = scaleB x0 x1 x2 x3 x4 (rs i x5) (y 1) (y 2) := by
  have hr : (fun ρ : Fin 128 => (arg12.view.read (Elt Ideal) (arg12.view.writes (Elt Ideal) arg12.view.junk (kernelRun0_C.sl.HS1_1 (F := Ideal) c i arg7 harg7 x5)) (ix2 ρ 0) : EReal)) = rs i x5 :=
    funext fun ρ => rcol_C c i arg7 harg7 arg12 x5 ρ
  rw [← hr]
  unfold out0_C_8
  exact read_scales arg2 arg3 arg4 arg5 arg6 arg12 (harg2.unread x0) (harg3.unread x1) (harg4.unread x2) (harg5.unread x3) (harg6.unread x4) (arg12.view.writes (Elt Ideal) arg12.view.junk (kernelRun0_C.sl.HS1_1 (F := Ideal) c i arg7 harg7 x5)) (harg2.read_unread x0) (harg3.read_unread x1) (harg4.read_unread x2) (harg5.read_unread x3) (harg6.read_unread x4) rfl VO0_8 VO0_8.junk _
    (pb_scales Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_C.sl.HS1_1 (F := Ideal) c i arg7 harg7 x5)) arg9.view.junk arg10.view.junk (harg11.unread xs0) k0_t1_loop.trips le_rfl) y
    (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 y)

theorem loop_acc_C (a : Fin 8) (d : Fin 7168) :
    arg11.view.read (Elt Ideal) (arg11.view.writes (Elt Ideal) (harg11.unread xs0)
      (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_C.sl.HS1_1 (F := Ideal) c i arg7 harg7 x5)) arg9.view.junk arg10.view.junk (harg11.unread xs0) k0_t1_loop.trips).2.2) (ix2 a d)
      = (xs0 (ix2 a d) + accB x0 x1 x2 x3 (rs i x5) a d : EReal) := by
  have hr : (fun ρ : Fin 128 => (arg12.view.read (Elt Ideal) (arg12.view.writes (Elt Ideal) arg12.view.junk (kernelRun0_C.sl.HS1_1 (F := Ideal) c i arg7 harg7 x5)) (ix2 ρ 0) : EReal)) = rs i x5 :=
    funext fun ρ => rcol_C c i arg7 harg7 arg12 x5 ρ
  rw [← hr]
  refine (pb_acc Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (arg12.view.writes (Elt Ideal) arg12.view.junk (kernelRun0_C.sl.HS1_1 (F := Ideal) c i arg7 harg7 x5)) arg9.view.junk arg10.view.junk (harg11.unread xs0) (harg2.read_unread x0) (harg3.read_unread x1) (harg4.read_unread x2) (harg5.read_unread x3) rfl a d k0_t1_loop.trips le_rfl).trans ?_
  rw [trips_eq]
  unfold accB
  rw [harg11.read_unread]

theorem sout_C (hc0 : ¬cond0_0 i) (hc1 : cond0_1 i) (a : Fin 8) (d : Fin 7168) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 (ix2 a d) = (xs0 (ix2 a d) + accB x0 x1 x2 x3 (rs i x5) a d : EReal) := by
  rw [← loop_acc_C c i arg2 harg2 arg3 harg3 arg4 harg4 arg5 harg5 arg6 harg6 arg7 harg7 arg8 harg8 arg9 harg9 arg10 harg10 arg11 harg11 arg12 harg12 x0 x1 x2 x3 x4 x5 xs0]
  unfold sout0_C_0
  exact View.read_writes_apply_eq VS0_0 VS0_0.junk arg11.view (harg11.unread xs0) (ix2 a d) _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 (ix2 a d))

theorem out_C_6 (hc0 : ¬cond0_0 i) (hc1 : cond0_1 i) (z : Fin 1) (d : Fin 7168) :
    out0_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 (ix2 z d) = (∑ a : Fin 8, (xs0 (ix2 a d) + accB x0 x1 x2 x3 (rs i x5) a d) : EReal) := by
  unfold out0_C_6
  refine (View.read_writes_cons_unit_of_mem VO0_6 VO0_6.junk _ _ [] (ix2 z d) (ix2 z d) rfl fun b => ?_).trans ?_
  · match b with
    | ⟨0, _⟩ => exact (Nat.zero_add _).symm
    | ⟨1, _⟩ => exact (Nat.zero_add _).symm
  · refine (pay6_apply _ z d).trans (Finset.sum_congr rfl fun a _ => ?_)
    rw [← loop_acc_C c i arg2 harg2 arg3 harg3 arg4 harg4 arg5 harg5 arg6 harg6 arg7 harg7 arg8 harg8 arg9 harg9 arg10 harg10 arg11 harg11 arg12 harg12 x0 x1 x2 x3 x4 x5 xs0]
    refine load_at _ _ _ rfl _ _ _ _ _ _ rfl fun b => ?_
    match b with
    | ⟨0, _⟩ => exact (Nat.zero_add _).symm
    | ⟨1, _⟩ => exact (Nat.zero_add _).symm
end

end Cert.KernelIdeal.Elem

end
-- ==== Proof.KernelIdeal.Blocks.lean ====
/- The blocks the body finds at a grid point, as pieces of the argument arrays: the point's coordinates are the batch and
   the third of the sequence. -/
module

public import proofs.«01_k».proof.Proof.KernelIdeal.Points

@[expose] public section

set_option maxRecDepth 8192
set_option maxHeartbeats 1000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.Math

variable (m : (ℓ : Loc nD τ sig) → Buf (Elt Ideal) ℓ) (c : Dev nD)

/-- The argument arrays as launched. -/
abbrev A0 : Vec Ideal S4x384x7168 .fp8e4m3 := m ((c : Thread nD τ).loc main_arg0)
abbrev A1 : Vec Ideal S4x384x56 .f32 := m ((c : Thread nD τ).loc main_arg1)
abbrev A2 : Vec Ideal S4x384x7168 .fp8e5m2 := m ((c : Thread nD τ).loc main_arg2)
abbrev A3 : Vec Ideal S4x384x56 .f32 := m ((c : Thread nD τ).loc main_arg3)
abbrev A4 : Vec Ideal S7168 .f32 := m ((c : Thread nD τ).loc main_arg4)
abbrev A5 : Vec Ideal S4x384 .f32 := m ((c : Thread nD τ).loc main_arg5)

/-- The batch of point `t`, and the place in the sequence of row `ρ` of its block. -/
abbrev bat (t : Fin cfg0.N) : Fin 4 := grid0.coords t 0
abbrev pos (t : Fin cfg0.N) (ρ : Fin 128) : Fin 384 :=
  ⟨128 * (grid0.coords t 1).val + ρ.val, by have h : (grid0.coords t 1).val < 3 := (grid0.coords t 1).isLt; omega⟩

theorem idx0 : ∀ t : Fin cfg0.N, win0_0.index t (0 : Fin 3) = (grid0.coords t 0).val ∧ win0_0.index t (1 : Fin 3) = (grid0.coords t 1).val ∧ win0_0.index t (2 : Fin 3) = 0 :=
  (by decide +kernel : ∀ t : Fin grid0.N, _)
theorem idx1 : ∀ t : Fin cfg0.N, win0_1.index t (0 : Fin 3) = (grid0.coords t 0).val ∧ win0_1.index t (1 : Fin 3) = (grid0.coords t 1).val ∧ win0_1.index t (2 : Fin 3) = 0 :=
  (by decide +kernel : ∀ t : Fin grid0.N, _)
theorem idx2 : ∀ t : Fin cfg0.N, win0_2.index t (0 : Fin 3) = (grid0.coords t 0).val ∧ win0_2.index t (1 : Fin 3) = (grid0.coords t 1).val ∧ win0_2.index t (2 : Fin 3) = 0 :=
  (by decide +kernel : ∀ t : Fin grid0.N, _)
theorem idx3 : ∀ t : Fin cfg0.N, win0_3.index t (0 : Fin 3) = (grid0.coords t 0).val ∧ win0_3.index t (1 : Fin 3) = (grid0.coords t 1).val ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0_apply (t : Fin cfg0.N) (ρ : Fin 128) (d : Fin 7168) :
    (iblk m c 0 t : Vec Ideal S1x128x7168 .fp8e4m3) (ix3 0 ρ d) = A0 m c (ix3 (bat t) (pos t ρ) d) := by
  obtain ⟨e0, e1, e2⟩ := idx0 t
  show V m c main_arg0 (((cfg0.win 0).blk t).view.emb (ix3 0 ρ d)) = _
  rw [V_main_arg0]
  refine congrArg _ (funext fun a => Fin.ext ?_)
  match a with
  | ⟨0, _⟩ => show win0_0.index t (0 : Fin 3) * 1 + 1 * 0 = (grid0.coords t 0).val; omega
  | ⟨1, _⟩ => show win0_0.index t (1 : Fin 3) * 128 + 1 * ρ.val = 128 * (grid0.coords t 1).val + ρ.val; omega
  | ⟨2, _⟩ => show win0_0.index t (2 : Fin 3) * 7168 + 1 * d.val = d.val; omega

theorem blk1_apply (t : Fin cfg0.N) (ρ : Fin 128) (d : Fin 56) :
    (iblk m c 1 t : Vec Ideal S1x128x56 .f32) (ix3 0 ρ d) = A1 m c (ix3 (bat t) (pos t ρ) d) := by
  obtain ⟨e0, e1, e2⟩ := idx1 t
  show V m c main_arg1 (((cfg0.win 1).blk t).view.emb (ix3 0 ρ d)) = _
  rw [V_main_arg1]
  refine congrArg _ (funext fun a => Fin.ext ?_)
  match a with
  | ⟨0, _⟩ => show win0_1.index t (0 : Fin 3) * 1 + 1 * 0 = (grid0.coords t 0).val; omega
  | ⟨1, _⟩ => show win0_1.index t (1 : Fin 3) * 128 + 1 * ρ.val = 128 * (grid0.coords t 1).val + ρ.val; omega
  | ⟨2, _⟩ => show win0_1.index t (2 : Fin 3) * 56 + 1 * d.val = d.val; omega

theorem blk2_apply (t : Fin cfg0.N) (ρ : Fin 128) (d : Fin 7168) :
    (iblk m c 2 t : Vec Ideal S1x128x7168 .fp8e5m2) (ix3 0 ρ d) = A2 m c (ix3 (bat t) (pos t ρ) d) := by
  obtain ⟨e0, e1, e2⟩ := idx2 t
  show V m c main_arg2 (((cfg0.win 2).blk t).view.emb (ix3 0 ρ d)) = _
  rw [V_main_arg2]
  refine congrArg _ (funext fun a => Fin.ext ?_)
  match a with
  | ⟨0, _⟩ => show win0_2.index t (0 : Fin 3) * 1 + 1 * 0 = (grid0.coords t 0).val; omega
  | ⟨1, _⟩ => show win0_2.index t (1 : Fin 3) * 128 + 1 * ρ.val = 128 * (grid0.coords t 1).val + ρ.val; omega
  | ⟨2, _⟩ => show win0_2.index t (2 : Fin 3) * 7168 + 1 * d.val = d.val; omega

theorem blk3_apply (t : Fin cfg0.N) (ρ : Fin 128) (d : Fin 56) :
    (iblk m c 3 t : Vec Ideal S1x128x56 .f32) (ix3 0 ρ d) = A3 m c (ix3 (bat t) (pos t ρ) d) := by
  obtain ⟨e0, e1, e2⟩ := idx3 t
  show V m c main_arg3 (((cfg0.win 3).blk t).view.emb (ix3 0 ρ d)) = _
  rw [V_main_arg3]
  refine congrArg _ (funext fun a => Fin.ext ?_)
  match a with
  | ⟨0, _⟩ => show win0_3.index t (0 : Fin 3) * 1 + 1 * 0 = (grid0.coords t 0).val; omega
  | ⟨1, _⟩ => show win0_3.index t (1 : Fin 3) * 128 + 1 * ρ.val = 128 * (grid0.coords t 1).val + ρ.val; omega
  | ⟨2, _⟩ => show win0_3.index t (2 : Fin 3) * 56 + 1 * d.val = d.val; omega

/-- The row form of `gamma`, which the host makes before the call. -/
theorem V_row (d : Fin 7168) : (V m c main_v0 : Vec Ideal S1x7168 .f32) (ix2 0 d) = A4 m c (ix1 d) := by
  have e : (V m c main_v0 : Vec Ideal S1x7168 .f32) = shapeCast S1x7168 (A4 m c) shapeCasts_S7168_S1x7168 := rfl
  rw [e]
  generalize A4 m c = G
  pointwise

theorem blk4_apply (t : Fin cfg0.N) (d : Fin 7168) :
    (iblk m c 4 t : Vec Ideal S1x7168 .f32) (ix2 0 d) = A4 m c (ix1 d) := by
  obtain ⟨e0, e1⟩ := idx4 t
  rw [← V_row]
  show V m c main_v0 (((cfg0.win 4).blk t).view.emb (ix2 0 d)) = _
  refine congrArg (V m c main_v0) (funext fun a => Fin.ext ?_)
  match a with
  | ⟨0, _⟩ => show win0_4.index t (0 : Fin 2) * 1 + 1 * 0 = 0; omega
  | ⟨1, _⟩ => show win0_4.index t (1 : Fin 2) * 7168 + 1 * d.val = d.val; omega

theorem blk5_apply (t : Fin cfg0.N) (b : Fin 4) (s : Fin 384) :
    (iblk m c 5 t : Vec Ideal S4x384 .f32) (ix2 b s) = A5 m c (ix2 b s) := by
  obtain ⟨e0, e1⟩ := idx5 t
  show V m c main_arg5 (((cfg0.win 5).blk t).view.emb (ix2 b s)) = _
  rw [V_main_arg5]
  refine congrArg _ (funext fun a => Fin.ext ?_)
  match a with
  | ⟨0, _⟩ => show win0_5.index t (0 : Fin 2) * 4 + 1 * b.val = b.val; omega
  | ⟨1, _⟩ => show win0_5.index t (1 : Fin 2) * 384 + 1 * s.val = s.val; omega

/-! ### The rows of the arguments -/

abbrev kx (b : Fin 4) (s : Fin 384) (j : Fin 56) (l : Fin 128) : EReal := A0 m c (ix3 b s (col j l))
abbrev ky (b : Fin 4) (s : Fin 384) (j : Fin 56) (l : Fin 128) : EReal := A2 m c (ix3 b s (col j l))
abbrev ksx (b : Fin 4) (s : Fin 384) (j : Fin 56) : EReal := A1 m c (ix3 b s j)
abbrev ksy (b : Fin 4) (s : Fin 384) (j : Fin 56) : EReal := A3 m c (ix3 b s j)
abbrev kg (j : Fin 56) (l : Fin 128) : EReal := A4 m c (ix1 (col j l))
abbrev kr (b : Fin 4) (s : Fin 384) : EReal := A5 m c (ix2 b s)

/-- The product and the gradient of row `(b, s)`. -/
def pK (b : Fin 4) (s : Fin 384) (j : Fin 56) (l : Fin 128) : EReal := kP (kx m c b s) (ky m c b s) (ksx m c b s) (ksy m c b s) (kr m c b s) j l
def dxK (b : Fin 4) (s : Fin 384) (j : Fin 56) (l : Fin 128) : EReal := kDx (kx m c b s) (ky m c b s) (ksx m c b s) (ksy m c b s) (kg m c) (kr m c b s) j l

theorem rs_blk (t : Fin cfg0.N) (ρ : Fin 128) : rs (grid0.coords t) (iblk m c 5 t) ρ = kr m c (bat t) (pos t ρ) := blk5_apply m c t _ _

theorem pB_blk (t : Fin cfg0.N) (ρ : Fin 128) :
    pB (iblk m c 0 t) (iblk m c 1 t) (iblk m c 2 t) (iblk m c 3 t) (rs (grid0.coords t) (iblk m c 5 t)) ρ = pK m c (bat t) (pos t ρ) := by
  funext j l
  unfold pB pK
  have e0 : bx (iblk m c 0 t) ρ = kx m c (bat t) (pos t ρ) := funext fun j => funext fun l => blk0_apply m c t ρ _
  have e2 : by' (iblk m c 2 t) ρ = ky m c (bat t) (pos t ρ) := funext fun j => funext fun l => blk2_apply m c t ρ _
  have e1 : bs (iblk m c 1 t) ρ = ksx m c (bat t) (pos t ρ) := funext fun j => blk1_apply m c t ρ _
  have e3 : bs (iblk m c 3 t) ρ = ksy m c (bat t) (pos t ρ) := funext fun j => blk3_apply m c t ρ _
  rw [e0, e1, e2, e3, rs_blk]

theorem dxB_blk (t : Fin cfg0.N) (ρ : Fin 128) :
    dxB (iblk m c 0 t) (iblk m c 1 t) (iblk m c 2 t) (iblk m c 3 t) (iblk m c 4 t) (rs (grid0.coords t) (iblk m c 5 t)) ρ = dxK m c (bat t) (pos t ρ) := by
  funext j l
  unfold dxB dxK
  have e0 : bx (iblk m c 0 t) ρ = kx m c (bat t) (pos t ρ) := funext fun j => funext fun l => blk0_apply m c t ρ _
  have e2 : by' (iblk m c 2 t) ρ = ky m c (bat t) (pos t ρ) := funext fun j => funext fun l => blk2_apply m c t ρ _
  have e1 : bs (iblk m c 1 t) ρ = ksx m c (bat t) (pos t ρ) := funext fun j => blk1_apply m c t ρ _
  have e3 : bs (iblk m c 3 t) ρ = ksy m c (bat t) (pos t ρ) := funext fun j => blk3_apply m c t ρ _
  have e4 : bg (iblk m c 4 t) = kg m c := funext fun j => funext fun l => blk4_apply m c t _
  rw [e0, e1, e2, e3, e4, rs_blk]

end Cert.KernelIdeal.Elem

end
-- ==== Proof.Math.Sums.lean ====
/- Regrouping a sum over consecutive natural numbers into sums over rows. -/
module

public import Idealize.ShloMosaic.PureOps.Ideal.Laws

@[expose] public section

namespace Cert.Math

open Finset

/-- `a` runs of `b` consecutive terms are `a * b` consecutive terms. -/
theorem sum_runs (F : ℕ → EReal) (a b o : ℕ) :
    (∑ i ∈ range a, ∑ j ∈ range b, F (o + b * i + j)) = ∑ n ∈ range (a * b), F (o + n) := by
  induction a with
  | zero => simp
  | succ a ih =>
    rw [sum_range_succ, ih, Nat.succ_mul, sum_range_add]
    refine congrArg _ (sum_congr rfl fun j _ => ?_)
    rw [Nat.mul_comm, Nat.add_assoc]

/-- Twelve points of four trips of four rows of eight, the eight added last, are the 4 × 384 rows. -/
theorem sum_rows (F : ℕ → EReal) :
    (∑ a : Fin 8, ∑ t ∈ range 12, ∑ k ∈ range 4, ∑ q : Fin 4, F (128 * t + (32 * k + (q.val * 8 + a.val))))
      = ∑ b : Fin 4, ∑ s : Fin 384, F (384 * b.val + s.val) := by
  have e : ∀ t k : ℕ, (∑ a : Fin 8, ∑ q : Fin 4, F (128 * t + (32 * k + (q.val * 8 + a.val)))) = ∑ n ∈ range 32, F (128 * t + 32 * k + n) := by
    intro t k
    rw [sum_comm, ← sum_runs F 4 8 (128 * t + 32 * k), sum_range]
    refine sum_congr rfl fun q _ => ?_
    rw [sum_range]
    refine sum_congr rfl fun a _ => congrArg F ?_
    omega
  have e' : ∀ t : ℕ, (∑ a : Fin 8, ∑ k ∈ range 4, ∑ q : Fin 4, F (128 * t + (32 * k + (q.val * 8 + a.val)))) = ∑ n ∈ range 128, F (128 * t + n) := by
    intro t
    rw [sum_comm, ← sum_runs F 4 32 (128 * t)]
    exact sum_congr rfl fun k _ => e t k
  rw [sum_comm, sum_congr rfl fun t _ => e' t]
  have h1 := sum_runs F 12 128 0
  have h2 := sum_runs F 4 384 0
  simp only [Nat.zero_add] at h1 h2
  rw [h1]
  refine h2.symm.trans ?_
  rw [sum_range]
  exact sum_congr rfl fun b _ => sum_range _

end Cert.Math
-- ==== Proof.KernelIdeal.Result.lean ====
/- The result arrays of the kernel over the extended reals: the codes and scales row by row, and the sum over all rows. -/
module

public import proofs.«01_k».proof.Proof.KernelIdeal.Blocks
public import proofs.«01_k».proof.Proof.KernelIdeal.Value
public import proofs.«01_k».proof.Proof.Math.Sums

@[expose] public section

set_option maxRecDepth 8192
set_option maxHeartbeats 1000000

noncomputable section

namespace Cert.KernelIdeal.Elem

open Idealize.ShloMosaic Idealize.ShloMosaic.TcCoe Idealize.ShloMosaic.Tactic Idealize.SL Idealize.SL.Sem
open Cert.KernelIdeal Cert.KernelIdeal.Gen Cert.KernelIdeal.Hand Cert.KernelIdeal.Value Cert.Math

variable (m : (ℓ : Loc nD τ sig) → Buf (Elt Ideal) ℓ) (c : Dev nD)

/-! ### What each point leaves -/

theorem point7 (t : Fin cfg0.N) (y : S1x128x7168.Idx) :
    (outsAt0 m c t.val t.isLt).2.1 y = codeB (iblk m c 0 t) (iblk m c 1 t) (iblk m c 2 t) (iblk m c 3 t) (iblk m c 4 t) (rs (grid0.coords t) (iblk m c 5 t)) (y 1) (y 2) := by
  by_cases h0 : t.val % 12 = 0
  · have h1 : ¬t.val % 12 = 11 := by omega
    rw [outsAt0_A m c t h0 h1]
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)  ((hcond0_0 t).mpr h0) (fun h => h1 ((hcond0_1 t).mp h)) y
  · by_cases h1 : t.val % 12 = 11
    · rw [outsAt0_C m c t h0 h1]
      exact out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) ((hcond0_1 t).mpr h1) y
    · rw [outsAt0_B m c t h0 h1]
      exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) (fun h => h1 ((hcond0_1 t).mp h)) y

theorem point8 (t : Fin cfg0.N) (y : S1x128x56.Idx) :
    (outsAt0 m c t.val t.isLt).2.2.1 y = scaleB (iblk m c 0 t) (iblk m c 1 t) (iblk m c 2 t) (iblk m c 3 t) (iblk m c 4 t) (rs (grid0.coords t) (iblk m c 5 t)) (y 1) (y 2) := by
  by_cases h0 : t.val % 12 = 0
  · have h1 : ¬t.val % 12 = 11 := by omega
    rw [outsAt0_A m c t h0 h1]
    exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)  ((hcond0_0 t).mpr h0) (fun h => h1 ((hcond0_1 t).mp h)) y
  · by_cases h1 : t.val % 12 = 11
    · rw [outsAt0_C m c t h0 h1]
      exact out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) ((hcond0_1 t).mpr h1) y
    · rw [outsAt0_B m c t h0 h1]
      exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) (fun h => h1 ((hcond0_1 t).mp h)) y

theorem codes_at (t : Fin cfg0.N) (ρ : Fin 128) (d : Fin 7168) :
    (outsAt0 m c t.val t.isLt).2.1 (ix3 0 ρ d) = kCode (dxK m c (bat t) (pos t ρ) (blk d) (lane d)) (amax (dxK m c (bat t) (pos t ρ) (blk d))) := by
  refine (point7 m c t (ix3 0 ρ d)).trans ?_
  show codeB (iblk m c 0 t) (iblk m c 1 t) (iblk m c 2 t) (iblk m c 3 t) (iblk m c 4 t) (rs (grid0.coords t) (iblk m c 5 t)) ρ d = _
  unfold codeB
  rw [dxB_blk]

theorem scales_at (t : Fin cfg0.N) (ρ : Fin 128) (j : Fin 56) :
    (outsAt0 m c t.val t.isLt).2.2.1 (ix3 0 ρ j) = kScale (kExp (amax (dxK m c (bat t) (pos t ρ) j) * c448)) := by
  refine (point8 m c t (ix3 0 ρ j)).trans ?_
  show scaleB (iblk m c 0 t) (iblk m c 1 t) (iblk m c 2 t) (iblk m c 3 t) (iblk m c 4 t) (rs (grid0.coords t) (iblk m c 5 t)) ρ j = _
  unfold scaleB
  rw [dxB_blk]

/-- What point `n` adds to row `a` of the accumulator in column `d`. -/
def addK (n : ℕ) (a : Fin 8) (d : Fin 7168) : EReal :=
  if hn : n < cfg0.N then (fun t : Fin cfg0.N => accB (iblk m c 0 t) (iblk m c 1 t) (iblk m c 2 t) (iblk m c 3 t) (rs (grid0.coords t) (iblk m c 5 t)) a d) ⟨n, hn⟩ else 0

theorem addK_eq (t : Fin cfg0.N) (a : Fin 8) (d : Fin 7168) : addK m c t.val a d = accB (iblk m c 0 t) (iblk m c 1 t) (iblk m c 2 t) (iblk m c 3 t) (rs (grid0.coords t) (iblk m c 5 t)) a d := dif_pos t.isLt

theorem acc_first (t : Fin cfg0.N) (h0 : t.val % 12 = 0) (h1 : ¬t.val % 12 = 11) (a : Fin 8) (d : Fin 7168) :
    (outsAt0 m c t.val t.isLt).2.2.2 (ix2 a d) = ((0 : EReal) + addK m c t.val a d : EReal) := by
  rw [outsAt0_A m c t h0 h1, addK_eq]
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)  ((hcond0_0 t).mpr h0) (fun h => h1 ((hcond0_1 t).mp h)) a d

theorem acc_next (t : Fin cfg0.N) (h0 : ¬t.val % 12 = 0) (h1 : ¬t.val % 12 = 11) (a : Fin 8) (d : Fin 7168) :
    (outsAt0 m c t.val t.isLt).2.2.2 (ix2 a d) = ((outsAt0 m c (t.val - 1) (Nat.lt_of_le_of_lt (Nat.sub_le _ _) t.isLt)).2.2.2 (ix2 a d) + addK m c t.val a d : EReal) := by
  rw [outsAt0_B m c t h0 h1, addK_eq]
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) (fun h => h1 ((hcond0_1 t).mp h)) a d

theorem dg_last (t : Fin cfg0.N) (h0 : ¬t.val % 12 = 0) (h1 : t.val % 12 = 11) (z : Fin 1) (d : Fin 7168) :
    (outsAt0 m c t.val t.isLt).1 (ix2 z d) = (∑ a : Fin 8, ((outsAt0 m c (t.val - 1) (Nat.lt_of_le_of_lt (Nat.sub_le _ _) t.isLt)).2.2.2 (ix2 a d) + addK m c t.val a d) : EReal) := by
  rw [outsAt0_C m c t h0 h1]
  have e := out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 (fun h => h0 ((hcond0_0 t).mp h)) ((hcond0_1 t).mpr h1) z d
  dsimp only
  refine e.trans ?_
  exact Finset.sum_congr rfl fun a _ => congrArg (_ + ·) (addK_eq m c t a d).symm

/-- The accumulator before the last point: the sum of what the points so far added. -/
theorem acc_before (n : ℕ) (hn : n < cfg0.N) (hl : n < 11) (a : Fin 8) (d : Fin 7168) :
    (outsAt0 m c n hn).2.2.2 (ix2 a d) = (∑ t ∈ Finset.range (n + 1), addK m c t a d : EReal) := by
  induction n with
  | zero =>
    refine (acc_first m c ⟨0, hn⟩ rfl (show ¬0 % 12 = 11 by decide) a d).trans ?_
    rw [Finset.sum_range_one, zero_add]
  | succ n ih =>
    have h0 : ¬(n + 1) % 12 = 0 := by omega
    have h1 : ¬(n + 1) % 12 = 11 := by omega
    refine (acc_next m c ⟨n + 1, hn⟩ h0 h1 a d).trans ?_
    rw [Finset.sum_range_succ]
    exact congrArg (· + _) (ih (by omega) (by omega))

/-! ### The arrays -/

theorem batOf (b : Fin 4) (s : Fin 384) (h : 3 * b.val + s.val / 128 < cfg0.N) : bat ⟨3 * b.val + s.val / 128, h⟩ = b := by
  have e0 : (grid0.coords ⟨3 * b.val + s.val / 128, h⟩ 0).val = (3 * b.val + s.val / 128) / 3 % 4 := Pipeline.Grid.coords_val _ 0 (by decide) rfl
  apply Fin.ext
  rw [e0]; omega

theorem posOf (b : Fin 4) (s : Fin 384) (h : 3 * b.val + s.val / 128 < cfg0.N) (ρ : Fin 128) (hρ : ρ.val = s.val % 128) :
    pos ⟨3 * b.val + s.val / 128, h⟩ ρ = s := by
  have e1 : (grid0.coords ⟨3 * b.val + s.val / 128, h⟩ 1).val = (3 * b.val + s.val / 128) / 1 % 3 := Pipeline.Grid.coords_val _ 1 (by decide) rfl
  apply Fin.ext
  show 128 * (grid0.coords ⟨3 * b.val + s.val / 128, h⟩ 1).val + ρ.val = s.val
  rw [e1]; omega

theorem blk_col (j : Fin 56) (l : Fin 128) : blk (col j l) = j := Fin.ext (by show (j.val * 128 + l.val) / 128 = j.val; omega)
theorem lane_col (j : Fin 56) (l : Fin 128) : lane (col j l) = l := Fin.ext (by show (j.val * 128 + l.val) % 128 = l.val; omega)

theorem G7_apply (b : Fin 4) (s : Fin 384) (j : Fin 56) (l : Fin 128) :
    G7 m c (ix3 b s (col j l)) = kCode (dxK m c b s j l) (amax (dxK m c b s j)) := by
  have hN : 3 * b.val + s.val / 128 < cfg0.N := lt_of_lt_of_eq (by omega) N_0.symm
  have hp : pt7Of (ix3 b s (col j l)) = 3 * b.val + s.val / 128 := by
    show 3 * (b.val / 1 - 0) + 1 * (s.val / 128 - 0) + 1 * ((j.val * 128 + l.val) / 7168 - 0) = _
    omega
  unfold G7
  rw [dif_pos (by rw [hp]; exact hN), fold0_congr m c _ _ _ (lt_of_eq_of_lt (Nat.zero_add _) hN) hp, ← outsAt0_sweep m c _ hN]
  have el : loc7Of (ix3 b s (col j l)) = ix3 0 ⟨s.val % 128, by omega⟩ (col j l) := by
    funext a; apply Fin.ext
    match a with
    | ⟨0, _⟩ => show b.val % 1 = 0; omega
    | ⟨1, _⟩ => rfl
    | ⟨2, _⟩ => show (j.val * 128 + l.val) % 7168 = j.val * 128 + l.val; omega
  rw [el]
  refine (codes_at m c ⟨_, hN⟩ _ _).trans ?_
  rw [batOf, posOf b s hN _ rfl, blk_col, lane_col]

theorem G8_apply (b : Fin 4) (s : Fin 384) (j : Fin 56) :
    G8 m c (ix3 b s j) = kScale (kExp (amax (dxK m c b s j) * c448)) := by
  have hN : 3 * b.val + s.val / 128 < cfg0.N := lt_of_lt_of_eq (by omega) N_0.symm
  have hp : pt8Of (ix3 b s j) = 3 * b.val + s.val / 128 := by
    show 3 * (b.val / 1 - 0) + 1 * (s.val / 128 - 0) + 1 * (j.val / 56 - 0) = _
    omega
  unfold G8
  rw [dif_pos (by rw [hp]; exact hN), fold0_congr m c _ _ _ (lt_of_eq_of_lt (Nat.zero_add _) hN) hp, ← outsAt0_sweep m c _ hN]
  have el : loc8Of (ix3 b s j) = ix3 0 ⟨s.val % 128, by omega⟩ j := by
    funext a; apply Fin.ext
    match a with
    | ⟨0, _⟩ => show b.val % 1 = 0; omega
    | ⟨1, _⟩ => rfl
    | ⟨2, _⟩ => show j.val % 56 = j.val; omega
  rw [el]
  refine (scales_at m c ⟨_, hN⟩ _ _).trans ?_
  rw [batOf, posOf b s hN _ rfl]

/-- Row `n` of all the rows, in order. -/
def rowK (j : Fin 56) (l : Fin 128) (n : ℕ) : EReal :=
  if h : n < 1536 then pK m c ⟨n / 384, by omega⟩ ⟨n % 384, by omega⟩ j l else 0

theorem rowK_at (j : Fin 56) (l : Fin 128) (b : Fin 4) (s : Fin 384) : rowK m c j l (384 * b.val + s.val) = pK m c b s j l := by
  unfold rowK
  rw [dif_pos (by omega)]
  have eb : (⟨(384 * b.val + s.val) / 384, by omega⟩ : Fin 4) = b := Fin.ext (by show (384 * b.val + s.val) / 384 = b.val; omega)
  have es : (⟨(384 * b.val + s.val) % 384, by omega⟩ : Fin 384) = s := Fin.ext (by show (384 * b.val + s.val) % 384 = s.val; omega)
  rw [eb, es]

theorem pN_at (t : Fin cfg0.N) (d : Fin 7168) (n : ℕ) (hn : n < 128) :
    pN (iblk m c 0 t) (iblk m c 1 t) (iblk m c 2 t) (iblk m c 3 t) (rs (grid0.coords t) (iblk m c 5 t)) d n = rowK m c (blk d) (lane d) (128 * t.val + n) := by
  have e0 : (grid0.coords t 0).val = t.val / 3 % 4 := Pipeline.Grid.coords_val t 0 (by decide) rfl
  have e1 : (grid0.coords t 1).val = t.val / 1 % 3 := Pipeline.Grid.coords_val t 1 (by decide) rfl
  have ht : t.val < 12 := lt_of_lt_of_eq t.isLt N_0
  have er := rowK_at m c (blk d) (lane d) (bat t) (pos t ⟨n, hn⟩)
  have ei : 384 * (bat t).val + (pos t ⟨n, hn⟩).val = 128 * t.val + n := by
    show 384 * (grid0.coords t 0).val + (128 * (grid0.coords t 1).val + n) = _
    rw [e0, e1]; omega
  unfold pN
  rw [dif_pos hn, pB_blk, ← ei, er]

theorem addK_rows (t : ℕ) (ht : t < 12) (a : Fin 8) (d : Fin 7168) :
    addK m c t a d = ∑ k ∈ Finset.range 4, ∑ q : Fin 4, rowK m c (blk d) (lane d) (128 * t + (32 * k + (q.val * 8 + a.val))) := by
  have hN : t < cfg0.N := lt_of_lt_of_eq ht N_0.symm
  rw [addK_eq m c ⟨t, hN⟩]
  unfold accB
  refine Finset.sum_congr rfl fun k hk => Finset.sum_congr rfl fun q _ => pN_at m c ⟨t, hN⟩ d _ ?_
  have := Finset.mem_range.mp hk
  omega

theorem G6_apply (z : Fin 1) (j : Fin 56) (l : Fin 128) :
    G6 m c (ix2 z (col j l)) = (∑ b : Fin 4, ∑ s : Fin 384, pK m c b s j l : EReal) := by
  have h11 : 11 < cfg0.N := lt_of_lt_of_eq (by decide) N_0.symm
  have h10 : 10 < cfg0.N := lt_of_lt_of_eq (by decide) N_0.symm
  rw [G6_last, ← outsAt0_sweep m c 11 h11]
  refine (dg_last m c ⟨11, h11⟩ (show ¬11 % 12 = 0 by decide) rfl z (col j l)).trans ?_
  have e : ∀ a : Fin 8, ((outsAt0 m c 10 h10).2.2.2 (ix2 a (col j l)) + addK m c 11 a (col j l) : EReal)
      = ∑ t ∈ Finset.range 12, ∑ k ∈ Finset.range 4, ∑ q : Fin 4, rowK m c (blk (col j l)) (lane (col j l)) (128 * t + (32 * k + (q.val * 8 + a.val))) := by
    intro a
    rw [acc_before m c 10 h10 (by decide), ← Finset.sum_range_succ (fun t => addK m c t a (col j l)) 11]
    exact Finset.sum_congr rfl fun t ht => addK_rows m c t (Finset.mem_range.mp ht) a _
  refine (Finset.sum_congr rfl fun a _ => e a).trans ?_
  rw [sum_rows]
  rw [blk_col, lane_col]
  exact Finset.sum_congr rfl fun b _ => Finset.sum_congr rfl fun s _ => rowK_at m c j l b s

end Cert.KernelIdeal.Elem

end
-- ==== Proof.ReferenceIdeal.Elem.lean ====
/- What the reference returns, read at an index over the extended reals. -/
module

public import proofs.«01_k».proof.Proof.Gen.ReferenceIdeal.Value
public import proofs.«01_k».proof.Proof.Math.Scale
public import Idealize.ShloMosaic.Lib.Pointwise
public import Idealize.ShloMosaic.Lib.IdealHost
public import Idealize.ShloMosaic.PureOps.IdealRules

@[expose] public section

set_option maxRecDepth 8192
set_option maxHeartbeats 4000000

noncomputable section

namespace Cert.ReferenceIdeal.Elem

open Idealize.ShloMosaic Idealize.ShloMosaic.TcCoe Idealize.ShloMosaic.Tactic Idealize.SL Idealize.SL.Sem
open Cert.ReferenceIdeal Cert.ReferenceIdeal.Gen Cert.Math

variable (a0 : Vec Ideal S4x384x7168 .fp8e4m3) (a1 : Vec Ideal S4x384x56 .f32) (a2 : Vec Ideal S4x384x7168 .fp8e5m2)
  (a3 : Vec Ideal S4x384x56 .f32) (a4 : Vec Ideal S7168 .f32) (a5 : Vec Ideal S4x384 .f32)

/-- Block `j`, lane `l` of a row of 7168. -/
abbrev col (j : Fin 56) (l : Fin 128) : Fin 7168 := ⟨j.val * 128 + l.val, by have := j.isLt; have := l.isLt; omega⟩

/-- The rows of the arguments, by block and lane. -/
abbrev xr (b : Fin 4) (s : Fin 384) (j : Fin 56) (l : Fin 128) : EReal := a0 (ix3 b s (col j l))
abbrev yr (b : Fin 4) (s : Fin 384) (j : Fin 56) (l : Fin 128) : EReal := a2 (ix3 b s (col j l))
abbrev sr (a : Vec Ideal S4x384x56 .f32) (b : Fin 4) (s : Fin 384) (j : Fin 56) : EReal := a (ix3 b s j)
abbrev gr (j : Fin 56) (l : Fin 128) : EReal := a4 (ix1 (col j l))

theorem col_split (j : Fin 56) (l : Fin 128) (h : _) : (⟨(j.val * 128 + l.val) / 128 * 128 + (j.val * 128 + l.val) % 128, h⟩ : Fin 7168) = col j l := by
  apply Fin.ext; show (j.val * 128 + l.val) / 128 * 128 + (j.val * 128 + l.val) % 128 = j.val * 128 + l.val; omega
theorem col_div (j : Fin 56) (l : Fin 128) (h : _) : (⟨(j.val * 128 + l.val) / 128, h⟩ : Fin 56) = j := by
  apply Fin.ext; show (j.val * 128 + l.val) / 128 = j.val; have := l.isLt; omega
theorem col_mod (j : Fin 56) (l : Fin 128) (h : _) : (⟨(j.val * 128 + l.val) % 128, h⟩ : Fin 128) = l := by
  apply Fin.ext; show (j.val * 128 + l.val) % 128 = l.val; have := l.isLt; omega

/-- A sum over a row of 7168 is the sum over the blocks of the sums over the lanes. -/
theorem sum_col (f : Fin 7168 → EReal) : ∑ d, f d = ∑ j : Fin 56, ∑ l : Fin 128, f (col j l) := by
  rw [← Fintype.sum_prod_type', ← (finProdFinEquiv (m := 56) (n := 128)).sum_comp f]
  refine Finset.sum_congr rfl fun p _ => congrArg f (Fin.ext ?_)
  show p.2.val + 128 * p.1.val = p.1.val * 128 + p.2.val
  omega

theorem pay4_apply (b : Fin 4) (s : Fin 384) (j : Fin 56) (l : Fin 128) :
    k0_pay4 a2 a3 (ix3 b s (col j l)) = (yr a2 b s j l * sr a3 b s j : EReal) := by
  pointwise [k0_pay4]
  rw [col_split, col_div]

theorem pay6_apply (b : Fin 4) (s : Fin 384) (j : Fin 56) (l : Fin 128) :
    k0_pay6 a0 a1 a5 (ix3 b s (col j l)) = rXhat (xr a0 b s) (sr a1 b s) (a5 (ix2 b s)) j l := by
  pointwise [k0_pay6, k0_pay5, rXhat]
  rw [col_split, col_div]

theorem pay7_apply (j : Fin 56) (l : Fin 128) :
    k0_pay7 a0 a1 a2 a3 a5 (ix2 0 (col j l))
      = (∑ b : Fin 4, ∑ s : Fin 384, rP (xr a0 b s) (yr a2 b s) (sr a1 b s) (sr a3 b s) (a5 (ix2 b s)) j l : EReal) := by
  pointwise [k0_pay7]
  have e : ∀ w : Vec Ideal S4x384x7168 .f32, Ideal.reduceAdd reduces_S4x384x7168_S7168 w (ix1 (col j l)) = (∑ b : Fin 4, ∑ s : Fin 384, w (ix3 b s (col j l)) : EReal) := by
    intro w
    generalize col j l = d
    rw [Ideal.reduceAdd, ← Fintype.sum_prod_type']
    refine Finset.sum_filter_eq_sum_of_fiber _ (fun p : Fin 4 × Fin 384 => ix3 p.1 p.2 d) ?_ ?_ w
    · rintro ⟨b, s⟩ ⟨b', s'⟩ e
      exact Prod.ext (congrFun e 0) (congrFun e 1)
    · intro i
      constructor
      · intro e
        refine ⟨(i 0, i 1), ?_⟩
        funext a; apply Fin.ext
        match a with
        | ⟨0, _⟩ => rfl
        | ⟨1, _⟩ => rfl
        | ⟨2, _⟩ => exact (congrArg Fin.val (congrFun e ⟨0, by decide⟩)).symm
      · rintro ⟨k, rfl⟩
        funext a
        match a with
        | ⟨0, _⟩ => rfl
  rw [e]
  refine Finset.sum_congr rfl fun b _ => Finset.sum_congr rfl fun s _ => ?_
  show (_ * _ : EReal) = _
  rw [pay4_apply, pay6_apply]; rfl

theorem pay8_apply (b : Fin 4) (s : Fin 384) (j : Fin 56) (l : Fin 128) :
    k0_pay8 a0 a1 a2 a3 a5 a4 (ix4 b s j l)
      = rDx (xr a0 b s) (yr a2 b s) (sr a1 b s) (sr a3 b s) (gr a4) (a5 (ix2 b s)) j l := by
  have e : k0_pay8 a0 a1 a2 a3 a5 a4 (ix4 b s j l) = (a5 (ix2 b s) *
      (k0_pay4 a2 a3 (ix3 b s (col j l)) * a4 (ix1 (col j l)) -
        k0_pay6 a0 a1 a5 (ix3 b s (col j l)) *
          Ideal.div (∑ x, k0_pay4 a2 a3 (ix3 b s x) * a4 (ix1 x) * k0_pay6 a0 a1 a5 (ix3 b s x))
            (Ideal.ofBits .f32 0x45E00000#32)) : EReal) := by
    pointwise [k0_pay8, k0_pay5]
  rw [e, sum_col, pay4_apply, pay6_apply]
  unfold rDx rRow
  congr 4
  refine Finset.sum_congr rfl fun j' _ => Finset.sum_congr rfl fun l' _ => ?_
  rw [pay4_apply, pay6_apply]; rfl

theorem ln2_eq : (Named.named (F := Ideal) κ "ln2" (φ := .f32) 0x3F317218#32 : EReal) = ((Real.log 2 : ℝ) : EReal) :=
  IdealRules.named_const.ideal_named_scalar _ _ _ _ rfl

theorem max_apply (v : FVec Ideal S4x384x56x128 .f32) (b : Fin 4) (s : Fin 384) (j : Fin 56) :
    (multiReduction .maximumf [3] S4x384x56 (absf v) 0xFF800000#32 reduces_S4x384x56x128_S4x384x56 (.inl rfl) rfl : FVec Ideal S4x384x56 .f32) (ix3 b s j)
      = amax fun l => v (ix4 b s j l) := by
  unfold amax
  rw [← lit_ninf]
  pointwise
  rfl

theorem by448_apply (M : FVec Ideal S4x384x56 .f32) (i : S4x384x56.Idx) :
    (mulf M (broadcast S4x384x56 (Scalar.ofBits .f32 0x3B124925#32 : Ideal .f32))) i = (M i * c448 : EReal) := rfl
theorem floorLog_apply (M : FVec Ideal S4x384x56 .f32) (i : S4x384x56.Idx) (L : Ideal .f32) :
    (floor (divf (log M) (broadcast S4x384x56 L))) i = Ideal.liftRound Int.floor (Ideal.div (Ideal.log (M i)) L) := rfl
theorem addOne_apply (M : FVec Ideal S4x384x56 .f32) (i : S4x384x56.Idx)  :
    (addf M (broadcast S4x384x56 (Scalar.ofBits .f32 0x3F800000#32 : Ideal .f32))) i = (M i + 1 : EReal) := by
  rw [← Ideal.ofBits_one_f32]; rfl
theorem clip_apply (M : FVec Ideal S4x384x56 .f32) (i : S4x384x56.Idx)  :
    (minimumf (broadcast S4x384x56 (Scalar.ofBits .f32 0x42F00000#32 : Ideal .f32)) (maximumf (broadcast S4x384x56 (Scalar.ofBits .f32 0xC2FC0000#32 : Ideal .f32)) M)) i = (min (Ideal.ofBits .f32 0x42F00000#32) (max (Ideal.ofBits .f32 0xC2FC0000#32) (M i)) : EReal) := by
  rfl
theorem ifZero_apply (M N : FVec Ideal S4x384x56 .f32) (i : S4x384x56.Idx)  :
    (select (cmpf .oeq M (broadcast S4x384x56 (Scalar.ofBits .f32 0x00000000#32 : Ideal .f32))) (broadcast S4x384x56 (Scalar.ofBits .f32 0x00000000#32 : Ideal .f32)) N : FVec Ideal S4x384x56 .f32) i = (if (M i : EReal) = 0 then 0 else N i : EReal) := by
  generalize hi : (M i : EReal) = m
  pointwise
  rw [hi]

theorem pay1_apply (v : FVec Ideal S4x384x56x128 .f32) (b : Fin 4) (s : Fin 384) (j : Fin 56) :
    k0_pay1 v (ix3 b s j) = rExp (amax fun l => v (ix4 b s j l)) := by
  unfold k0_pay1
  rw [ifZero_apply, clip_apply, addOne_apply, floorLog_apply, by448_apply, max_apply, ln2_eq]
  generalize (amax fun l => v (ix4 b s j l)) = m
  rfl

theorem exp2_apply (v : FVec Ideal S4x384x56 .f32) (i : S4x384x56.Idx) : (exp2 v i : EReal) = Ideal.exp2 (v i) := rfl

theorem pay2_apply (v : FVec Ideal S4x384x56x128 .f32) (b : Fin 4) (s : Fin 384) (j : Fin 56) :
    k0_pay2 v (ix3 b s j) = Ideal.exp2 (rExp (amax fun l => v (ix4 b s j l))) := by
  rw [← pay1_apply v b s j]
  unfold k0_pay2
  generalize k0_pay1 v = E
  exact exp2_apply E (ix3 b s j)

/-- The codes, from the exponents `E`. -/
theorem codes_apply (v : FVec Ideal S4x384x56x128 .f32) (E : FVec Ideal S4x384x56 .f32) (b : Fin 4) (s : Fin 384) (j : Fin 56) (l : Fin 128) :
    (mulf v (broadcastTo S4x384x56x128 (shapeCast S4x384x56x1 (exp2 (subf (broadcast S4x384x56 (Scalar.ofBits .f32 0x00000000#32 : Ideal .f32)) E)) shapeCasts_S4x384x56_S4x384x56x1) broadcasts_S4x384x56x1_S4x384x56x128) : FVec Ideal S4x384x56x128 .f32) (ix4 b s j l)
      = (v (ix4 b s j l) * Ideal.exp2 (0 - E (ix3 b s j)) : EReal) := by
  have h : (subf (broadcast S4x384x56 (Scalar.ofBits .f32 0x00000000#32 : Ideal .f32)) E (ix3 b s j) : EReal) = 0 - E (ix3 b s j) := by
    rw [← Ideal.ofBits_zero_f32]; rfl
  rw [← h]
  generalize (subf (broadcast S4x384x56 (Scalar.ofBits .f32 0x00000000#32 : Ideal .f32)) E) = S
  rw [← exp2_apply S]
  generalize exp2 S = T
  pointwise

theorem pay3_apply (v : FVec Ideal S4x384x56x128 .f32) (b : Fin 4) (s : Fin 384) (j : Fin 56) (l : Fin 128) :
    k0_pay3 v (ix3 b s (col j l)) = rCode (v (ix4 b s j l)) (amax fun l => v (ix4 b s j l)) := by
  unfold rCode
  rw [← pay1_apply v b s j, ← codes_apply]
  unfold k0_pay3 hi448 lo448
  generalize k0_pay1 v = E
  generalize (mulf v _) = T
  pointwise
  rw [col_div, col_mod]

end Cert.ReferenceIdeal.Elem

end
-- ==== Proof.Math.Equal.lean ====
/- The two ways to compute a row agree: the sums regroup, and the reference's product by `rstd` distributes over the
   difference when `rstd` is nonnegative and finite. -/
module

public import proofs.«01_k».proof.Proof.Math.Scale

@[expose] public section

noncomputable section

namespace Cert.Math

open Idealize.ShloMosaic

section
variable (X Y : Fin 56 → Fin 128 → EReal) (sx sy : Fin 56 → EReal) (g : Fin 56 → Fin 128 → EReal) (r : EReal)

theorem p_eq (j : Fin 56) (l : Fin 128) : kP X Y sx sy r j l = rP X Y sx sy r j l := by
  unfold kP rP rXhat; ac_rfl

theorem row_eq : kRow X Y sx sy g r = rRow X Y sx sy g r := by
  rw [kRow, rRow, Finset.sum_comm]
  refine Finset.sum_congr rfl fun j _ => Finset.sum_congr rfl fun l _ => ?_
  unfold kP rG rXhat; ac_rfl

theorem dx_eq (h0 : 0 ≤ r) (h1 : r ≠ ⊤) (j : Fin 56) (l : Fin 128) : kDx X Y sx sy g r j l = rDx X Y sx sy g r j l := by
  have hd : Ideal.div (rRow X Y sx sy g r) (Ideal.ofBits .f32 0x45E00000#32) = rRow X Y sx sy g r * ((1 / 7168 : ℝ) : EReal) := by
    have h7 : ((7168 : ℝ) : EReal) ≠ 0 := by exact_mod_cast (by norm_num : (7168 : ℝ) ≠ 0)
    rw [lit7168, Ideal.div, if_neg h7, ← EReal.coe_inv]; norm_num
  rw [kDx, rDx, hd, row_eq, sub_eq_add_neg, sub_eq_add_neg, EReal.left_distrib_of_nonneg_of_ne_top h0 h1, mul_neg]
  unfold rG rXhat
  congr 1
  · ac_rfl
  · congr 1; ac_rfl
end

end Cert.Math

end
-- ==== Proof.Algebraic.lean ====
/- Over the extended reals the kernel's three result arrays are the reference's, where every `rstd` is neither negative
   nor infinite. -/
module

public import proofs.«01_k».proof.Defs
public import proofs.«01_k».proof.Proof.KernelIdeal.Result
public import proofs.«01_k».proof.Proof.ReferenceIdeal.Elem
public import proofs.«01_k».proof.Proof.Gen.ReferenceIdeal.Value
public import proofs.«01_k».proof.Proof.Math.Equal

@[expose] public section

set_option maxRecDepth 8192
set_option maxHeartbeats 1000000

noncomputable section

namespace Cert.Proof

open Idealize.ShloMosaic Idealize.ShloMosaic.TcCoe Idealize.ShloMosaic.Tactic Idealize.SL.Sem Cert.Math

/-- The side condition of the precondition's printed function. -/
theorem preFacts : Cert.Pre_rstd_in_range.Facts := ⟨by decide⟩

theorem lit_inf : Ideal.ofBits .f32 0x7F800000#32 = (⊤ : EReal) := by
  simp [Ideal.ofBits, Ideal.ieee, -EReal.coe_mul]

/-- What the precondition says of one `rstd`. -/
theorem pre_apply [Cert.Pre_rstd_in_range.Facts] (a0 : FVec Ideal Cert.Pre_rstd_in_range.S4x384x7168 .fp8e4m3) (a1 : FVec Ideal Cert.Pre_rstd_in_range.S4x384x56 .f32)
    (a2 : FVec Ideal Cert.Pre_rstd_in_range.S4x384x7168 .fp8e5m2) (a3 : FVec Ideal Cert.Pre_rstd_in_range.S4x384x56 .f32)
    (a4 : FVec Ideal Cert.Pre_rstd_in_range.S7168 .f32) (a5 : FVec Ideal Cert.Pre_rstd_in_range.S4x384 .f32)
    (h : Cert.Pre_rstd_in_range.fn (F := Ideal) a0 a1 a2 a3 a4 a5 = fun _ => 1#1) (b : Fin 4) (s : Fin 384) :
    (0 : EReal) ≤ a5 (ix2 b s) ∧ a5 (ix2 b s) ≠ (⊤ : EReal) := by
  have e := congrFun h (ix2 b s)
  have e' : IntOp.andi (Ideal.cmp .oge (a5 (ix2 b s)) (Ideal.ofBits .f32 0x00000000#32)) (Ideal.cmp .olt (a5 (ix2 b s)) (Ideal.ofBits .f32 0x7F800000#32)) = 1#1 := e
  rw [Ideal.ofBits_zero_f32, lit_inf] at e'
  generalize a5 (ix2 b s) = r at e' ⊢
  by_cases h0 : (0 : EReal) ≤ r <;> by_cases h1 : r < (⊤ : EReal)
  · exact ⟨h0, ne_of_lt h1⟩
  all_goals
    exfalso
    revert e'
    simp [Ideal.cmp, IntOp.andi, h0, h1]

section
open Cert.ReferenceIdeal Cert.ReferenceIdeal.Gen Cert.ReferenceIdeal.Value

/-- Loads of whole arrays read the arrays. -/
theorem pay9_eq (a0 : Vec Ideal S4x384x7168 .fp8e4m3) (a1 : Vec Ideal S4x384x56 .f32) (a2 : Vec Ideal S4x384x7168 .fp8e5m2)
    (a3 : Vec Ideal S4x384x56 .f32) (a4 : Vec Ideal S7168 .f32) (a5 : Vec Ideal S4x384 .f32) :
    k0_pay9 a0 a1 a2 a3 a4 a5 = k0_pay8 a0 a1 a2 a3 a5 a4 := by
  unfold k0_pay9
  rw [View.ld_unit_zero (S := S4x384x7168) hz0 _ a0, View.ld_unit_zero (S := S4x384x56) hz1 _ a1, View.ld_unit_zero (S := S4x384x7168) hz2 _ a2, View.ld_unit_zero (S := S4x384x56) hz3 _ a3, View.ld_unit_zero (S := S7168) hz4 _ a4, View.ld_unit_zero (S := S4x384) hz5 _ a5]
end

section
variable (m : (ℓ : Loc Cert.KernelIdeal.nD Cert.KernelIdeal.τ Cert.KernelIdeal.sig) → Buf (Elt Ideal) ℓ) (c : Dev Cert.KernelIdeal.nD)

open Cert.KernelIdeal.Elem (A0 A1 A2 A3 A4 A5 pK dxK G6_apply G7_apply G8_apply col blk lane col_blk)

theorem pK_eq (b : Fin 4) (s : Fin 384) (j : Fin 56) (l : Fin 128) :
    pK m c b s j l = rP (Cert.ReferenceIdeal.Elem.xr (A0 m c) b s) (Cert.ReferenceIdeal.Elem.yr (A2 m c) b s)
      (Cert.ReferenceIdeal.Elem.sr (A1 m c) b s) (Cert.ReferenceIdeal.Elem.sr (A3 m c) b s) (A5 m c (ix2 b s)) j l := by
  unfold pK
  exact p_eq _ _ _ _ _ _ _

/-- The gradient of a row, as the reference's blocks hold it. -/
theorem dxK_eq (hr : ∀ b s, (0 : EReal) ≤ A5 m c (ix2 b s) ∧ A5 m c (ix2 b s) ≠ (⊤ : EReal)) (b : Fin 4) (s : Fin 384) (j : Fin 56) :
    dxK m c b s j = fun l => Cert.ReferenceIdeal.Gen.k0_pay8 (A0 m c) (A1 m c) (A2 m c) (A3 m c) (A5 m c) (A4 m c) (ix4 b s j l) := by
  funext l
  rw [Cert.ReferenceIdeal.Elem.pay8_apply]
  unfold dxK
  exact dx_eq _ _ _ _ _ _ (hr b s).1 (hr b s).2 _ _

/-- Every index of a result, by batch, position, block and lane. -/
theorem idx6 (x : Cert.ReferenceIdeal.S1x7168.Idx) : ∃ (j : Fin 56) (l : Fin 128), x = ix2 0 (col j l) := by
  have h : ∀ (z : Fin 1) (d : Fin 7168), x = ix2 z d → ∃ (j : Fin 56) (l : Fin 128), x = ix2 0 (col j l) := fun z d h =>
    ⟨blk d, lane d, by rw [col_blk, h, Subsingleton.elim z 0]⟩
  exact h _ _ (eq_ix2 (n0 := 1) (n1 := 7168) x)
theorem idx7 (x : Cert.ReferenceIdeal.S4x384x7168.Idx) : ∃ (b : Fin 4) (s : Fin 384) (j : Fin 56) (l : Fin 128), x = ix3 b s (col j l) := by
  have h : ∀ (b : Fin 4) (s : Fin 384) (d : Fin 7168), x = ix3 b s d → ∃ (b : Fin 4) (s : Fin 384) (j : Fin 56) (l : Fin 128), x = ix3 b s (col j l) := fun b s d h =>
    ⟨b, s, blk d, lane d, by rw [col_blk, h]⟩
  exact h _ _ _ (eq_ix3 (n0 := 4) (n1 := 384) (n2 := 7168) x)
theorem idx8 (x : Cert.ReferenceIdeal.S4x384x56.Idx) : ∃ (b : Fin 4) (s : Fin 384) (j : Fin 56), x = ix3 b s j :=
  ⟨_, _, _, eq_ix3 (n0 := 4) (n1 := 384) (n2 := 56) x⟩

theorem sum_pK (j : Fin 56) (l : Fin 128) : (∑ b : Fin 4, ∑ s : Fin 384, pK m c b s j l : EReal)
    = ∑ b : Fin 4, ∑ s : Fin 384, rP (Cert.ReferenceIdeal.Elem.xr (A0 m c) b s) (Cert.ReferenceIdeal.Elem.yr (A2 m c) b s)
      (Cert.ReferenceIdeal.Elem.sr (A1 m c) b s) (Cert.ReferenceIdeal.Elem.sr (A3 m c) b s) (A5 m c (ix2 b s)) j l :=
  Finset.sum_congr rfl fun b _ => Finset.sum_congr rfl fun s _ => pK_eq m c b s j l

/-- The first result: the gradient of `gamma`. -/
theorem res6 : Cert.ReferenceIdeal.Value.G6 (A0 m c) (A1 m c) (A2 m c) (A3 m c) (A4 m c) (A5 m c) = Cert.KernelIdeal.Value.G6 m c := by
  funext x
  obtain ⟨j, l, rfl⟩ := idx6 x
  exact (Cert.ReferenceIdeal.Elem.pay7_apply _ _ _ _ _ j l).trans ((G6_apply m c 0 j l).trans (sum_pK m c j l)).symm

/-- The second: the codes of the gradient of `x`. -/
theorem res7 (hr : ∀ b s, (0 : EReal) ≤ A5 m c (ix2 b s) ∧ A5 m c (ix2 b s) ≠ (⊤ : EReal)) :
    Cert.ReferenceIdeal.Value.G7 (A0 m c) (A1 m c) (A2 m c) (A3 m c) (A4 m c) (A5 m c) = Cert.KernelIdeal.Value.G7 m c := by
  funext x
  obtain ⟨b, s, j, l, rfl⟩ := idx7 x
  refine (Cert.ReferenceIdeal.Elem.pay3_apply _ b s j l).trans ((G7_apply m c b s j l).trans ?_).symm
  rw [pay9_eq, dxK_eq m c hr, code_eq _ _ (amax_nonneg _)]

/-- The third: their scales. -/
theorem res8 (hr : ∀ b s, (0 : EReal) ≤ A5 m c (ix2 b s) ∧ A5 m c (ix2 b s) ≠ (⊤ : EReal)) :
    Cert.ReferenceIdeal.Value.G8 (A0 m c) (A1 m c) (A2 m c) (A3 m c) (A4 m c) (A5 m c) = Cert.KernelIdeal.Value.G8 m c := by
  funext x
  obtain ⟨b, s, j, rfl⟩ := idx8 x
  refine (Cert.ReferenceIdeal.Elem.pay2_apply _ b s j).trans ((G8_apply m c b s j).trans ?_).symm
  rw [pay9_eq, dxK_eq m c hr, (scale_eq _ (amax_nonneg _)).1]
end

theorem algebraic : Cert.algebraic_KernelIdeal_ReferenceIdeal_pre_rstd_in_range (hKernelIdeal := Cert.KernelIdeal.Gen.facts)
    (hReferenceIdeal := Cert.ReferenceIdeal.Gen.facts) (hPre_rstd_in_range := preFacts) := by
  intro m g m' g' hp ha
  refine ⟨fun c => Cert.KernelIdeal.Value.G6 m c, fun c => Cert.KernelIdeal.Value.G7 m c, fun c => Cert.KernelIdeal.Value.G8 m c,
    Cert.KernelIdeal.Value.run m g, ?_⟩
  refine (θ_run _ _ _).mono (fun r h c => ?_) (Cert.ReferenceIdeal.Value.run m' g')
  obtain ⟨h6, h7, h8, h⟩ := h c
  obtain ⟨e0, e1, e2, e3, e4, e5⟩ := ha c
  have hr : ∀ b s, (0 : EReal) ≤ Cert.KernelIdeal.Elem.A5 m c (ix2 b s) ∧ Cert.KernelIdeal.Elem.A5 m c (ix2 b s) ≠ (⊤ : EReal) :=
    fun b s => @pre_apply preFacts _ _ _ _ _ _ (hp c) b s
  refine ⟨h6.trans ?_, h7.trans ?_, h8.trans ?_, h⟩
  · rw [e0, e1, e2, e3, e4, e5]
    exact res6 m c
  · rw [e0, e1, e2, e3, e4, e5]
    exact res7 m c hr
  · rw [e0, e1, e2, e3, e4, e5]
    exact res8 m c hr

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelIdeal.Frame
public import proofs.«01_k».proof.Proof.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, preFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, fun m ρ _ => Cert.Reference.Gen.frame m ρ,
  IdealRules.named_const.statement Cert.KernelIdeal.κ "inv_d" .f32 0x39124925#32 ((1 / 7168 : ℝ) : EReal) rfl,
  IdealRules.named_const.statement Cert.ReferenceIdeal.κ "ln2" .f32 0x3F317218#32 ((Real.log 2 : ℝ) : EReal) rfl,
  algebraic⟩

end Cert.Proof

end
